-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_experts_in_range : Cert.Pre_experts_in_range.Facts] (m : (ℓ : Loc Cert.Kernel2.nD Cert.Kernel2.τ Cert.Kernel2.sig) → Buf (Elt Bits) ℓ) : Prop :=
  ∀ c : Dev Cert.Kernel2.nD,
    (Cert.Pre_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8)) (m ((c.tc : Thread Cert.Kernel2.nD Cert.Kernel2.τ).loc Cert.Kernel2.main_arg9)) (m ((c.tc : Thread Cert.Kernel2.nD Cert.Kernel2.τ).loc Cert.Kernel2.main_arg10))) = (fun _ => 1#1)

def Pre_Kernel2Ideal [hPre_experts_in_range : Cert.Pre_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))) = (fun _ => 1#1)

def Pre_Kernel2Ideal_experts_differ [hPre_experts_differ : Cert.Pre_experts_differ.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_differ.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_differ [hPre_experts_differ : Cert.Pre_experts_differ.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_differ.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_query_finite [hPre_query_finite : Cert.Pre_query_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_query_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_query_finite [hPre_query_finite : Cert.Pre_query_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_query_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_experts_in_range : Cert.Pre_experts_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_experts_differ [hKernel2Ideal : Cert.Kernel2Ideal.Facts] [hPre_experts_differ : Cert.Pre_experts_differ.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_experts_differ m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_experts_differ [hReference2Ideal : Cert.Reference2Ideal.Facts] [hPre_experts_differ : Cert.Pre_experts_differ.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_differ m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Kernel4Ideal_pre_query_finite [hKernel4Ideal : Cert.Kernel4Ideal.Facts] [hPre_query_finite : Cert.Pre_query_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_query_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Reference4Ideal_pre_query_finite [hReference4Ideal : Cert.Reference4Ideal.Facts] [hPre_query_finite : Cert.Pre_query_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_query_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_experts_differ [hKernel2Ideal : Cert.Kernel2Ideal.Facts] [hReference2Ideal : Cert.Reference2Ideal.Facts] [hPre_experts_differ : Cert.Pre_experts_differ.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_experts_differ m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v16) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_query_finite [hKernel4Ideal : Cert.Kernel4Ideal.Facts] [hReference4Ideal : Cert.Reference4Ideal.Facts] [hPre_query_finite : Cert.Pre_query_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_query_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v17)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v78) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_experts_in_range : Cert.Pre_experts_in_range.Facts) (hPre_experts_differ : Cert.Pre_experts_differ.Facts) (hPre_query_finite : Cert.Pre_query_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_experts_in_range := hPre_experts_in_range)
    ∧ quiescent_Kernel2Ideal (hKernel2Ideal := hKernel2Ideal) (hPre_experts_in_range := hPre_experts_in_range)
    ∧ quiescent_Kernel2Ideal_pre_experts_differ (hKernel2Ideal := hKernel2Ideal) (hPre_experts_differ := hPre_experts_differ)
    ∧ quiescent_Reference2Ideal (hReference2Ideal := hReference2Ideal)
    ∧ quiescent_Reference2Ideal_pre_experts_differ (hReference2Ideal := hReference2Ideal) (hPre_experts_differ := hPre_experts_differ)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_query_finite (hKernel4Ideal := hKernel4Ideal) (hPre_query_finite := hPre_query_finite)
    ∧ quiescent_Reference4Ideal (hReference4Ideal := hReference4Ideal)
    ∧ quiescent_Reference4Ideal_pre_query_finite (hReference4Ideal := hReference4Ideal) (hPre_query_finite := hPre_query_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_experts_differ (hKernel2Ideal := hKernel2Ideal) (hReference2Ideal := hReference2Ideal) (hPre_experts_differ := hPre_experts_differ)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_query_finite (hKernel4Ideal := hKernel4Ideal) (hReference4Ideal := hReference4Ideal) (hPre_query_finite := hPre_query_finite)
-- ==== Pre_experts_differ.lean ====
abbrev S22528x1024 : Shape := ⟨2, ![22528, 1024]⟩
abbrev S22528 : Shape := ⟨1, ![22528]⟩
abbrev S88 : Shape := ⟨1, ![88]⟩
abbrev S1 : Shape := ⟨1, ![1]⟩
abbrev S1024 : Shape := ⟨1, ![1024]⟩
abbrev S16x1024x512 : Shape := ⟨3, ![16, 1024, 512]⟩
abbrev S16x512x1024 : Shape := ⟨3, ![16, 512, 1024]⟩
abbrev S_ : Shape := ⟨0, ![]⟩

class Facts : Prop where
  bcast_S_S88 : S_.BroadcastsInDim S88 (![] : Fin 0 → Fin S88.rank)
  reducesTo_S88_S_d0 : S88.ReducesTo [0] S_
  h_S_ : 0 < S_.numel

variable [Facts]

def fn {F : FTy → Type} [FloatOps F] (main_arg0 : FVec F S22528x1024 .f32) (main_arg1 : FVec F S22528 .f32) (main_arg2 : FVec F S22528 .f32) (main_arg3 : IVec S88 32) (main_arg4 : IVec S88 32) (main_arg5 : IVec S1 32) (main_arg6 : FVec F S1024 .f32) (main_arg7 : FVec F S1024 .f32) (main_arg8 : FVec F S16x1024x512 .f32) (main_arg9 : FVec F S16x1024x512 .f32) (main_arg10 : FVec F S16x512x1024 .f32) : IVec S_ 1 :=
  let main_c : IVec S_ 32 := constantI S_ 32 0#32
  let main_v0 : IVec S88 32 := broadcastInDim S88 ![] bcast_S_S88 main_c
  let main_v1 : IVec S88 1 := cmpi .sge main_arg3 main_v0
  let main_c_0 : IVec S_ 32 := constantI S_ 32 16#32
  let main_v2 : IVec S88 32 := broadcastInDim S88 ![] bcast_S_S88 main_c_0
  let main_v3 : IVec S88 1 := cmpi .slt main_arg3 main_v2
  let main_v4 : IVec S88 1 := andi main_v1 main_v3
  let main_c_1 : IVec S_ 1 := constantI S_ 1 1#1
  let main_v5 : IVec S_ 1 := (fun x v => Host.reduce IntOp.andi x v reducesTo_S88_S_d0 h_S_) main_v4 main_c_1
  let main_c_2 : IVec S_ 32 := constantI S_ 32 0#32
  let main_v6 : IVec S88 32 := broadcastInDim S88 ![] bcast_S_S88 main_c_2
  let main_v7 : IVec S88 1 := cmpi .sge main_arg4 main_v6
  let main_c_3 : IVec S_ 32 := constantI S_ 32 16#32
  let main_v8 : IVec S88 32 := broadcastInDim S88 ![] bcast_S_S88 main_c_3
  let main_v9 : IVec S88 1 := cmpi .slt main_arg4 main_v8
  let main_v10 : IVec S88 1 := andi main_v7 main_v9
  let main_c_4 : IVec S_ 1 := constantI S_ 1 1#1
  let main_v11 : IVec S_ 1 := (fun x v => Host.reduce IntOp.andi x v reducesTo_S88_S_d0 h_S_) main_v10 main_c_4
  let main_v12 : IVec S_ 1 := andi main_v5 main_v11
  let main_v13 : IVec S88 1 := cmpi .ne main_arg3 main_arg4
  let main_c_5 : IVec S_ 1 := constantI S_ 1 1#1
  let main_v14 : IVec S_ 1 := (fun x v => Host.reduce IntOp.andi x v reducesTo_S88_S_d0 h_S_) main_v13 main_c_5
  let main_v15 : IVec S_ 1 := andi main_v12 main_v14
  main_v15
-- ==== Pre_experts_in_range.lean ====
abbrev S22528x1024 : Shape := ⟨2, ![22528, 1024]⟩
abbrev S22528 : Shape := ⟨1, ![22528]⟩
abbrev S88 : Shape := ⟨1, ![88]⟩
abbrev S1 : Shape := ⟨1, ![1]⟩
abbrev S1024 : Shape := ⟨1, ![1024]⟩
abbrev S16x1024x512 : Shape := ⟨3, ![16, 1024, 512]⟩
abbrev S16x512x1024 : Shape := ⟨3, ![16, 512, 1024]⟩
abbrev S_ : Shape := ⟨0, ![]⟩

class Facts : Prop where
  bcast_S_S88 : S_.BroadcastsInDim S88 (![] : Fin 0 → Fin S88.rank)
  reducesTo_S88_S_d0 : S88.ReducesTo [0] S_
  h_S_ : 0 < S_.numel

variable [Facts]

def fn {F : FTy → Type} [FloatOps F] (main_arg0 : FVec F S22528x1024 .f32) (main_arg1 : FVec F S22528 .f32) (main_arg2 : FVec F S22528 .f32) (main_arg3 : IVec S88 32) (main_arg4 : IVec S88 32) (main_arg5 : IVec S1 32) (main_arg6 : FVec F S1024 .f32) (main_arg7 : FVec F S1024 .f32) (main_arg8 : FVec F S16x1024x512 .f32) (main_arg9 : FVec F S16x1024x512 .f32) (main_arg10 : FVec F S16x512x1024 .f32) : IVec S_ 1 :=
  let main_c : IVec S_ 32 := constantI S_ 32 0#32
  let main_v0 : IVec S88 32 := broadcastInDim S88 ![] bcast_S_S88 main_c
  let main_v1 : IVec S88 1 := cmpi .sge main_arg3 main_v0
  let main_c_0 : IVec S_ 32 := constantI S_ 32 16#32
  let main_v2 : IVec S88 32 := broadcastInDim S88 ![] bcast_S_S88 main_c_0
  let main_v3 : IVec S88 1 := cmpi .slt main_arg3 main_v2
  let main_v4 : IVec S88 1 := andi main_v1 main_v3
  let main_c_1 : IVec S_ 1 := constantI S_ 1 1#1
  let main_v5 : IVec S_ 1 := (fun x v => Host.reduce IntOp.andi x v reducesTo_S88_S_d0 h_S_) main_v4 main_c_1
  let main_c_2 : IVec S_ 32 := constantI S_ 32 0#32
  let main_v6 : IVec S88 32 := broadcastInDim S88 ![] bcast_S_S88 main_c_2
  let main_v7 : IVec S88 1 := cmpi .sge main_arg4 main_v6
  let main_c_3 : IVec S_ 32 := constantI S_ 32 16#32
  let main_v8 : IVec S88 32 := broadcastInDim S88 ![] bcast_S_S88 main_c_3
  let main_v9 : IVec S88 1 := cmpi .slt main_arg4 main_v8
  let main_v10 : IVec S88 1 := andi main_v7 main_v9
  let main_c_4 : IVec S_ 1 := constantI S_ 1 1#1
  let main_v11 : IVec S_ 1 := (fun x v => Host.reduce IntOp.andi x v reducesTo_S88_S_d0 h_S_) main_v10 main_c_4
  let main_v12 : IVec S_ 1 := andi main_v5 main_v11
  main_v12
-- ==== Pre_finite.lean ====
abbrev S8x2048x8x64 : Shape := ⟨4, ![8, 2048, 8, 64]⟩
abbrev S8x2048x2x64 : Shape := ⟨4, ![8, 2048, 2, 64]⟩
abbrev S_ : Shape := ⟨0, ![]⟩

class Facts : Prop where
  bcast_S_S8x2048x8x64 : S_.BroadcastsInDim S8x2048x8x64 (![] : Fin 0 → Fin S8x2048x8x64.rank)
  reducesTo_S8x2048x8x64_S_d0_1_2_3 : S8x2048x8x64.ReducesTo [0, 1, 2, 3] S_
  h_S_ : 0 < S_.numel
  bcast_S_S8x2048x2x64 : S_.BroadcastsInDim S8x2048x2x64 (![] : Fin 0 → Fin S8x2048x2x64.rank)
  reducesTo_S8x2048x2x64_S_d0_1_2_3 : S8x2048x2x64.ReducesTo [0, 1, 2, 3] S_

variable [Facts]

def fn {F : FTy → Type} [FloatOps F] (main_arg0 : FVec F S8x2048x8x64 .f32) (main_arg1 : FVec F S8x2048x2x64 .f32) (main_arg2 : FVec F S8x2048x2x64 .f32) : IVec S_ 1 :=
  let main_v0 : FVec F S8x2048x8x64 .f32 := Host.absf main_arg0
  let main_cst : FVec F S_ .f32 := constant S_ .f32 0x7F800000#32
  let main_v1 : FVec F S8x2048x8x64 .f32 := broadcastInDim S8x2048x8x64 ![] bcast_S_S8x2048x8x64 main_cst
  let main_v2 : IVec S8x2048x8x64 1 := cmpf .olt main_v0 main_v1
  let main_c : IVec S_ 1 := constantI S_ 1 1#1
  let main_v3 : IVec S_ 1 := (fun x v => Host.reduce IntOp.andi x v reducesTo_S8x2048x8x64_S_d0_1_2_3 h_S_) main_v2 main_c
  let main_v4 : FVec F S8x2048x2x64 .f32 := Host.absf main_arg1
  let main_cst_0 : FVec F S_ .f32 := constant S_ .f32 0x7F800000#32
  let main_v5 : FVec F S8x2048x2x64 .f32 := broadcastInDim S8x2048x2x64 ![] bcast_S_S8x2048x2x64 main_cst_0
  let main_v6 : IVec S8x2048x2x64 1 := cmpf .olt main_v4 main_v5
  let main_c_1 : IVec S_ 1 := constantI S_ 1 1#1
  let main_v7 : IVec S_ 1 := (fun x v => Host.reduce IntOp.andi x v reducesTo_S8x2048x2x64_S_d0_1_2_3 h_S_) main_v6 main_c_1
  let main_v8 : IVec S_ 1 := andi main_v3 main_v7
  main_v8
-- ==== Pre_query_finite.lean ====
abbrev S8x2048x1024 : Shape := ⟨3, ![8, 2048, 1024]⟩
abbrev S8x2048x512 : Shape := ⟨3, ![8, 2048, 512]⟩
abbrev S512x512 : Shape := ⟨2, ![512, 512]⟩
abbrev S512 : Shape := ⟨1, ![512]⟩
abbrev S1024x1024 : Shape := ⟨2, ![1024, 1024]⟩
abbrev S1024 : Shape := ⟨1, ![1024]⟩
abbrev S8x256x1024 : Shape := ⟨3, ![8, 256, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S8x256x1024 : S_.BroadcastsInDim S8x256x1024 (![] : Fin 0 → Fin S8x256x1024.rank)
  reducesTo_S8x256x1024_S_d0_1_2 : S8x256x1024.ReducesTo [0, 1, 2] S_

variable [Facts]

def fn {F : FTy → Type} [FloatOps F] (main_arg0 : FVec F S8x2048x1024 .f32) (main_arg1 : FVec F S8x2048x512 .f32) (main_arg2 : FVec F S8x2048x512 .f32) (main_arg3 : FVec F S512x512 .f32) (main_arg4 : FVec F S512 .f32) (main_arg5 : FVec F S512 .f32) (main_arg6 : FVec F S512 .f32) (main_arg7 : FVec F S1024x1024 .f32) (main_arg8 : FVec F S1024 .f32) (main_arg9 : FVec F S1024x1024 .f32) (main_arg10 : FVec F S1024x1024 .f32) (main_arg11 : FVec F S8x256x1024 .f32) (main_arg12 : FVec F S8x256x1024 .f32) : IVec S_ 1 :=
  let main_v0 : FVec F S1024 .f32 := Host.absf main_arg8
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x1024 .f32 := Host.absf main_arg9
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S8x256x1024 .f32 := Host.absf main_arg11
  let main_cst_2 : FVec F S_ .f32 := constant S_ .f32 0x7F800000#32
  let main_v10 : FVec F S8x256x1024 .f32 := broadcastInDim S8x256x1024 ![] bcast_S_S8x256x1024 main_cst_2
  let main_v11 : IVec S8x256x1024 1 := cmpf .olt main_v9 main_v10
  let main_c_3 : IVec S_ 1 := constantI S_ 1 1#1
  let main_v12 : IVec S_ 1 := (fun x v => Host.reduce IntOp.andi x v reducesTo_S8x256x1024_S_d0_1_2 h_S_) main_v11 main_c_3
  let main_v13 : IVec S_ 1 := andi main_v8 main_v12
  main_v13
-- ==== Kernel.lean ====
abbrev S8x2048x8x64 : Shape := ⟨4, ![8, 2048, 8, 64]⟩
abbrev S8x2048x2x64 : Shape := ⟨4, ![8, 2048, 2, 64]⟩
abbrev S_ : Shape := ⟨0, ![]⟩
abbrev S16384x512 : Shape := ⟨2, ![16384, 512]⟩
abbrev S8x2048x2x128 : Shape := ⟨4, ![8, 2048, 2, 128]⟩
abbrev S16384x256 : Shape := ⟨2, ![16384, 256]⟩
abbrev S8x2048x512 : Shape := ⟨3, ![8, 2048, 512]⟩
abbrev S8x2048x256 : Shape := ⟨3, ![8, 2048, 256]⟩
abbrev S1x1024x256 : Shape := ⟨3, ![1, 1024, 256]⟩
abbrev S1x2048x128 : Shape := ⟨3, ![1, 2048, 128]⟩
abbrev S2048x128 : Shape := ⟨2, ![2048, 128]⟩
abbrev S2x256x2048 : Shape := ⟨3, ![2, 256, 2048]⟩
abbrev S256x128 : Shape := ⟨2, ![256, 128]⟩
abbrev S1x256x128 : Shape := ⟨3, ![1, 256, 128]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩
abbrev S1x256x2048 : Shape := ⟨3, ![1, 256, 2048]⟩
abbrev S256x2048 : Shape := ⟨2, ![256, 2048]⟩

abbrev nBuf : Space → Nat
  | .hbm => 18
  | .vmem => 14
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x2x64, .f32⟩
  | .hbm, ⟨2, _⟩ => ⟨S8x2048x2x64, .f32⟩
  | .hbm, ⟨3, _⟩ => ⟨S_, .f32⟩
  | .hbm, ⟨4, _⟩ => ⟨S8x2048x8x64, .f32⟩
  | .hbm, ⟨5, _⟩ => ⟨S8x2048x8x64, .f32⟩
  | .hbm, ⟨6, _⟩ => ⟨S8x2048x8x64, .bf16⟩
  | .hbm, ⟨7, _⟩ => ⟨S16384x512, .bf16⟩
  | .hbm, ⟨8, _⟩ => ⟨S8x2048x2x128, .f32⟩
  | .hbm, ⟨9, _⟩ => ⟨S8x2048x2x128, .bf16⟩
  | .hbm, ⟨10, _⟩ => ⟨S16384x256, .bf16⟩
  | .hbm, ⟨11, _⟩ => ⟨S8x2048x2x128, .f32⟩
  | .hbm, ⟨12, _⟩ => ⟨S8x2048x2x128, .bf16⟩
  | .hbm, ⟨13, _⟩ => ⟨S16384x256, .bf16⟩
  | .hbm, ⟨14, _⟩ => ⟨S8x2048x512, .bf16⟩
  | .hbm, ⟨15, _⟩ => ⟨S8x2048x256, .bf16⟩
  | .hbm, ⟨16, _⟩ => ⟨S8x2048x256, .bf16⟩
  | .hbm, ⟨17, _⟩ => ⟨S8x2048x512, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x1024x256, .bf16⟩
  | .local _ .vmem, ⟨7, _⟩ => ⟨S1x1024x256, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2x256x2048, .f32⟩
  | .local _ .vmem, ⟨13, _⟩ => ⟨S2x256x2048, .bf16⟩
  | _, _ => ⟨S8x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x2048x8x64 : Shape := ⟨4, ![8, 2048, 8, 64]⟩
abbrev S8x2048x2x64 : Shape := ⟨4, ![8, 2048, 2, 64]⟩
abbrev S8x2048x2x4x64 : Shape := ⟨5, ![8, 2048, 2, 4, 64]⟩
abbrev S8x2x2048x2048x4 : Shape := ⟨5, ![8, 2, 2048, 2048, 4]⟩
abbrev S8x2x4x2048x2048 : Shape := ⟨5, ![8, 2, 4, 2048, 2048]⟩
abbrev S_ : Shape := ⟨0, ![]⟩
abbrev S8x2x4x2048 : Shape := ⟨4, ![8, 2, 4, 2048]⟩
abbrev S8x2x4x2048x1 : Shape := ⟨5, ![8, 2, 4, 2048, 1]⟩
abbrev S8x2x64x4x2048 : Shape := ⟨5, ![8, 2, 64, 4, 2048]⟩
abbrev S8x2048x512 : Shape := ⟨3, ![8, 2048, 512]⟩

abbrev nBuf : Space → Nat
  | .hbm => 27
  | .vmem => 0
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x2x64, .f32⟩
  | .hbm, ⟨2, _⟩ => ⟨S8x2048x2x64, .f32⟩
  | .hbm, ⟨3, _⟩ => ⟨S8x2048x2x4x64, .f32⟩
  | .hbm, ⟨4, _⟩ => ⟨S8x2x2048x2048x4, .f32⟩
  | .hbm, ⟨5, _⟩ => ⟨S8x2x4x2048x2048, .f32⟩
  | .hbm, ⟨6, _⟩ => ⟨S_, .f32⟩
  | .hbm, ⟨7, _⟩ => ⟨S8x2x4x2048x2048, .f32⟩
  | .hbm, ⟨8, _⟩ => ⟨S8x2x4x2048x2048, .f32⟩
  | .hbm, ⟨9, _⟩ => ⟨S_, .f32⟩
  | .hbm, ⟨10, _⟩ => ⟨S8x2x4x2048, .f32⟩
  | .hbm, ⟨11, _⟩ => ⟨S_, .f32⟩
  | .hbm, ⟨12, _⟩ => ⟨S8x2x4x2048, .f32⟩
  | .hbm, ⟨13, _⟩ => ⟨S8x2x4x2048, .f32⟩
  | .hbm, ⟨14, _⟩ => ⟨S8x2x4x2048x1, .f32⟩
  | .hbm, ⟨15, _⟩ => ⟨S8x2x4x2048x2048, .f32⟩
  | .hbm, ⟨16, _⟩ => ⟨S8x2x4x2048x2048, .f32⟩
  | .hbm, ⟨17, _⟩ => ⟨S8x2x4x2048x2048, .f32⟩
  | .hbm, ⟨18, _⟩ => ⟨S_, .f32⟩
  | .hbm, ⟨19, _⟩ => ⟨S8x2x4x2048, .f32⟩
  | .hbm, ⟨20, _⟩ => ⟨S8x2x4x2048x1, .f32⟩
  | .hbm, ⟨21, _⟩ => ⟨S8x2x4x2048x2048, .f32⟩
  | .hbm, ⟨22, _⟩ => ⟨S8x2x4x2048x2048, .f32⟩
  | .hbm, ⟨23, _⟩ => ⟨S8x2x64x4x2048, .f32⟩
  | .hbm, ⟨24, _⟩ => ⟨S8x2048x2x4x64, .f32⟩
  | .hbm, ⟨25, _⟩ => ⟨S8x2048x512, .f32⟩
  | .hbm, ⟨26, _⟩ => ⟨S8x2048x512, .bf16⟩
  | _, _ => ⟨S8x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel2.lean ====
abbrev S22528x1024 : Shape := ⟨2, ![22528, 1024]⟩
abbrev S22528 : Shape := ⟨1, ![22528]⟩
abbrev S88 : Shape := ⟨1, ![88]⟩
abbrev S1 : Shape := ⟨1, ![1]⟩
abbrev S1024 : Shape := ⟨1, ![1024]⟩
abbrev S16x1024x512 : Shape := ⟨3, ![16, 1024, 512]⟩
abbrev S16x512x1024 : Shape := ⟨3, ![16, 512, 1024]⟩
abbrev S_ : Shape := ⟨0, ![]⟩
abbrev S22528x2 : Shape := ⟨2, ![22528, 2]⟩
abbrev S22528x1 : Shape := ⟨2, ![22528, 1]⟩
abbrev S22528x124 : Shape := ⟨2, ![22528, 124]⟩
abbrev S22528x1152 : Shape := ⟨2, ![22528, 1152]⟩
abbrev S1x1024 : Shape := ⟨2, ![1, 1024]⟩
abbrev S256x1152 : Shape := ⟨2, ![256, 1152]⟩
abbrev S1x1024x512 : Shape := ⟨3, ![1, 1024, 512]⟩
abbrev S1x512x1024 : Shape := ⟨3, ![1, 512, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 21
  | .vmem => 18
  | .smem => 3
  | _ => 0

abbrev bufTy : (tb : Table) → Fin (tcTables nBuf tb) → BufTy
  | .hbm, ⟨0, _⟩ => ⟨S22528x1024, .f32⟩
  | .hbm, ⟨1, _⟩ => ⟨S22528, .f32⟩
  | .hbm, ⟨2, _⟩ => ⟨S22528, .f32⟩
  | .hbm, ⟨3, _⟩ => ⟨S1024, .f32⟩
  | .hbm, ⟨4, _⟩ => ⟨S1024, .f32⟩
  | .hbm, ⟨5, _⟩ => ⟨S16x1024x512, .f32⟩
  | .hbm, ⟨6, _⟩ => ⟨S16x1024x512, .f32⟩
  | .hbm, ⟨7, _⟩ => ⟨S16x512x1024, .f32⟩
  | .hbm, ⟨8, _⟩ => ⟨S_, .f32⟩
  | .hbm, ⟨9, _⟩ => ⟨S22528x2, .f32⟩
  | .hbm, ⟨10, _⟩ => ⟨S22528x1, .f32⟩
  | .hbm, ⟨11, _⟩ => ⟨S22528x1, .f32⟩
  | .hbm, ⟨12, _⟩ => ⟨S_, .f32⟩
  | .hbm, ⟨13, _⟩ => ⟨S22528x124, .f32⟩
  | .hbm, ⟨14, _⟩ => ⟨S22528x1152, .f32⟩
  | .hbm, ⟨15, _⟩ => ⟨S16x1024x512, .bf16⟩
  | .hbm, ⟨16, _⟩ => ⟨S16x1024x512, .bf16⟩
  | .hbm, ⟨17, _⟩ => ⟨S16x512x1024, .bf16⟩
  | .hbm, ⟨18, _⟩ => ⟨S1x1024, .f32⟩
  | .hbm, ⟨19, _⟩ => ⟨S1x1024, .f32⟩
  | .hbm, ⟨20, _⟩ => ⟨S22528x1024, .f32⟩
  | .local _ .vmem, ⟨0, _⟩ => ⟨S256x1152, .f32⟩
  | .local _ .vmem, ⟨1, _⟩ => ⟨S256x1152, .f32⟩
  | .local _ .vmem, ⟨2, _⟩ => ⟨S1x1024, .f32⟩
  | .local _ .vmem, ⟨3, _⟩ => ⟨S1x1024, .f32⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x512x1024, .bf16⟩
  | .local _ .vmem, ⟨15, _⟩ => ⟨S1x512x1024, .bf16⟩
  | .local _ .vmem, ⟨16, _⟩ => ⟨S256x1024, .f32⟩
  | .local _ .vmem, ⟨17, _⟩ => ⟨S256x1024, .f32⟩
  | .local _ .smem, ⟨0, _⟩ => ⟨S88, .i32⟩
  | .local _ .smem, ⟨1, _⟩ => ⟨S88, .i32⟩
  | .local _ .smem, ⟨2, _⟩ => ⟨S1, .i32⟩
  | _, _ => ⟨S22528x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg6 : Ref sig .tc := ⟨.hbm, 3, rfl⟩
abbrev main_arg7 : Ref sig .tc := ⟨.hbm, 4, rfl⟩
abbrev main_arg8 : Ref sig .tc := ⟨.hbm, 5, rfl⟩
abbrev main_arg9 : Ref sig .tc := ⟨.hbm, 6, rfl⟩
abbrev main_arg10 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_arg3 : Ref sig .tc := ⟨.smem, 0, rfl⟩
abbrev main_arg4 : Ref sig .tc := ⟨.smem, 1, rfl⟩
abbrev main_arg5 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![88], ![false]⟩

abbrev pre0 : Pipeline.Prefetch sig := ⟨3, ![main_arg3.idx, main_arg4.idx, main_arg5.idx], fun | 0 => main_arg3.names | 1 => main_arg4.names | 2 => main_arg5.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S22528x1024 : Shape := ⟨2, ![22528, 1024]⟩
abbrev S22528 : Shape := ⟨1, ![22528]⟩
abbrev S88 : Shape := ⟨1, ![88]⟩
abbrev S1 : Shape := ⟨1, ![1]⟩
abbrev S1024 : Shape := ⟨1, ![1024]⟩
abbrev S16x1024x512 : Shape := ⟨3, ![16, 1024, 512]⟩
abbrev S16x512x1024 : Shape := ⟨3, ![16, 512, 1024]⟩
abbrev S_ : Shape := ⟨0, ![]⟩
abbrev S22528x1 : Shape := ⟨2, ![22528, 1]⟩
abbrev S1x1024 : Shape := ⟨2, ![1, 1024]⟩
abbrev S88x256 : Shape := ⟨2, ![88, 256]⟩
abbrev S16 : Shape := ⟨1, ![16]⟩
abbrev S1x16 : Shape := ⟨2, ![1, 16]⟩
abbrev S22528x16 : Shape := ⟨2, ![22528, 16]⟩
abbrev S22528x16x512 : Shape := ⟨3, ![22528, 16, 512]⟩
abbrev S22528x16x1 : Shape := ⟨3, ![22528, 16, 1]⟩

abbrev nBuf : Space → Nat
  | .hbm => 100
  | .vmem => 0
  | .smem => 0
  | _ => 0

abbrev bufTy : (tb : Table) → Fin (tcTables nBuf tb) → BufTy
  | .hbm, ⟨0, _⟩ => ⟨S22528x1024, .f32⟩
  | .hbm, ⟨1, _⟩ => ⟨S22528, .f32⟩
  | .hbm, ⟨2, _⟩ => ⟨S22528, .f32⟩
  | .hbm, ⟨3, _⟩ => ⟨S88, .i32⟩
  | .hbm, ⟨4, _⟩ => ⟨S88, .i32⟩
  | .hbm, ⟨5, _⟩ => ⟨S1, .i32⟩
  | .hbm, ⟨6, _⟩ => ⟨S1024, .f32⟩
  | .hbm, ⟨7, _⟩ => ⟨S1024, .f32⟩
  | .hbm, ⟨8, _⟩ => ⟨S16x1024x512, .f32⟩
  | .hbm, ⟨9, _⟩ => ⟨S16x1024x512, .f32⟩
  | .hbm, ⟨10, _⟩ => ⟨S16x512x1024, .f32⟩
  | .hbm, ⟨11, _⟩ => ⟨S22528x1024, .f32⟩
  | .hbm, ⟨12, _⟩ => ⟨S_, .f32⟩
  | .hbm, ⟨13, _⟩ => ⟨S22528, .f32⟩
  | .hbm, ⟨14, _⟩ => ⟨S22528x1, .f32⟩
  | .hbm, ⟨15, _⟩ => ⟨S_, .f32⟩
  | .hbm, ⟨16, _⟩ => ⟨S22528x1, .f32⟩
  | .hbm, ⟨17, _⟩ => ⟨S22528x1, .f32⟩
  | .hbm, ⟨18, _⟩ => ⟨S_, .f32⟩
  | .hbm, ⟨19, _⟩ => ⟨S22528x1, .f32⟩
  | .hbm, ⟨20, _⟩ => ⟨S22528x1, .f32⟩
  | .hbm, ⟨21, _⟩ => ⟨S22528x1, .f32⟩
  | .hbm, ⟨22, _⟩ => ⟨S22528x1024, .f32⟩
  | .hbm, ⟨23, _⟩ => ⟨S22528x1024, .f32⟩
  | .hbm, ⟨24, _⟩ => ⟨S1x1024, .f32⟩
  | .hbm, ⟨25, _⟩ => ⟨S22528x1024, .f32⟩
  | .hbm, ⟨26, _⟩ => ⟨S22528x1024, .f32⟩
  | .hbm, ⟨27, _⟩ => ⟨S88, .i32⟩
  | .hbm, ⟨28, _⟩ => ⟨S88x256, .i32⟩
  | .hbm, ⟨29, _⟩ => ⟨S22528, .i32⟩
  | .hbm, ⟨30, _⟩ => ⟨S16, .i32⟩
  | .hbm, ⟨31, _⟩ => ⟨S88x256, .i32⟩
  | .hbm, ⟨32, _⟩ => ⟨S22528, .i32⟩
  | .hbm, ⟨33, _⟩ => ⟨S22528x1, .i32⟩
  | .hbm, ⟨34, _⟩ => ⟨S1x16, .i32⟩
  | .hbm, ⟨35, _⟩ => ⟨S22528x16, .i32⟩
  | .hbm, ⟨36, _⟩ => ⟨S22528x16, .i32⟩
  | .hbm, ⟨37, _⟩ => ⟨S22528x16, .i1⟩
  | .hbm, ⟨38, _⟩ => ⟨S22528x1, .f32⟩
  | .hbm, ⟨39, _⟩ => ⟨S_, .f32⟩
  | .hbm, ⟨40, _⟩ => ⟨S_, .f32⟩
  | .hbm, ⟨41, _⟩ => ⟨S22528x16, .f32⟩
  | .hbm, ⟨42, _⟩ => ⟨S22528x16, .f32⟩
  | .hbm, ⟨43, _⟩ => ⟨S22528x16, .f32⟩
  | .hbm, ⟨44, _⟩ => ⟨S88x256, .i32⟩
  | .hbm, ⟨45, _⟩ => ⟨S22528, .i32⟩
  | .hbm, ⟨46, _⟩ => ⟨S22528x1, .i32⟩
  | .hbm, ⟨47, _⟩ => ⟨S1x16, .i32⟩
  | .hbm, ⟨48, _⟩ => ⟨S22528x16, .i32⟩
  | .hbm, ⟨49, _⟩ => ⟨S22528x16, .i32⟩
  | .hbm, ⟨50, _⟩ => ⟨S22528x16, .i1⟩
  | .hbm, ⟨51, _⟩ => ⟨S22528x1, .f32⟩
  | .hbm, ⟨52, _⟩ => ⟨S_, .f32⟩
  | .hbm, ⟨53, _⟩ => ⟨S_, .f32⟩
  | .hbm, ⟨54, _⟩ => ⟨S22528x16, .f32⟩
  | .hbm, ⟨55, _⟩ => ⟨S22528x16, .f32⟩
  | .hbm, ⟨56, _⟩ => ⟨S22528x16, .f32⟩
  | .hbm, ⟨57, _⟩ => ⟨S22528x16, .f32⟩
  | .hbm, ⟨58, _⟩ => ⟨S22528x16x512, .f32⟩
  | .hbm, ⟨59, _⟩ => ⟨S22528x16x512, .f32⟩
  | .hbm, ⟨60, _⟩ => ⟨S22528x16x512, .f32⟩
  | .hbm, ⟨61, _⟩ => ⟨S_, .f32⟩
  | .hbm, ⟨62, _⟩ => ⟨S22528x16x512, .f32⟩
  | .hbm, ⟨63, _⟩ => ⟨S22528x16x512, .f32⟩
  | .hbm, ⟨64, _⟩ => ⟨S_, .f32⟩
  | .hbm, ⟨65, _⟩ => ⟨S22528x16x512, .f32⟩
  | .hbm, ⟨66, _⟩ => ⟨S22528x16x512, .f32⟩
  | .hbm, ⟨67, _⟩ => ⟨S22528x16x512, .f32⟩
  | .hbm, ⟨68, _⟩ => ⟨S22528x16x512, .f32⟩
  | .hbm, ⟨69, _⟩ => ⟨S22528x16x512, .f32⟩
  | .hbm, ⟨70, _⟩ => ⟨S22528x16x1, .f32⟩
  | .hbm, ⟨71, _⟩ => ⟨S22528x16x512, .f32⟩
  | .hbm, ⟨72, _⟩ => ⟨S22528x16x512, .f32⟩
  | .hbm, ⟨73, _⟩ => ⟨S22528x1024, .f32⟩
  | .hbm, ⟨74, _⟩ => ⟨S22528x1024, .f32⟩
  | .hbm, ⟨75, _⟩ => ⟨S_, .i32⟩
  | .hbm, ⟨76, _⟩ => ⟨S22528, .i32⟩
  | .hbm, ⟨77, _⟩ => ⟨S22528, .i1⟩
  | .hbm, ⟨78, _⟩ => ⟨S22528x1, .i1⟩
  | .hbm, ⟨79, _⟩ => ⟨S22528x1024, .f32⟩
  | .hbm, ⟨80, _⟩ => ⟨S_, .f32⟩
  | .hbm, ⟨81, _⟩ => ⟨S22528, .f32⟩
  | .hbm, ⟨82, _⟩ => ⟨S22528x1, .f32⟩
  | .hbm, ⟨83, _⟩ => ⟨S_, .f32⟩
  | .hbm, ⟨84, _⟩ => ⟨S22528x1, .f32⟩
  | .hbm, ⟨85, _⟩ => ⟨S22528x1, .f32⟩
  | .hbm, ⟨86, _⟩ => ⟨S_, .f32⟩
  | .hbm, ⟨87, _⟩ => ⟨S22528x1, .f32⟩
  | .hbm, ⟨88, _⟩ => ⟨S22528x1, .f32⟩
  | .hbm, ⟨89, _⟩ => ⟨S22528x1, .f32⟩
  | .hbm, ⟨90, _⟩ => ⟨S22528x1024, .f32⟩
  | .hbm, ⟨91, _⟩ => ⟨S22528x1024, .f32⟩
  | .hbm, ⟨92, _⟩ => ⟨S1x1024, .f32⟩
  | .hbm, ⟨93, _⟩ => ⟨S22528x1024, .f32⟩
  | .hbm, ⟨94, _⟩ => ⟨S22528x1024, .f32⟩
  | .hbm, ⟨95, _⟩ => ⟨S_, .f32⟩
  | .hbm, ⟨96, _⟩ => ⟨S_, .f32⟩
  | .hbm, ⟨97, _⟩ => ⟨S22528x1024, .i1⟩
  | .hbm, ⟨98, _⟩ => ⟨S22528x1024, .f32⟩
  | .hbm, ⟨99, _⟩ => ⟨S22528x1024, .f32⟩
  | _, _ => ⟨S22528x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_call2_v0 : Ref sig .tc := ⟨.hbm, 59, rfl⟩
abbrev main_call2_v1 : Ref sig .tc := ⟨.hbm, 60, rfl⟩
abbrev main_call2_cst : Ref sig .tc := ⟨.hbm, 61, rfl⟩
abbrev main_call2_v2 : Ref sig .tc := ⟨.hbm, 62, rfl⟩
abbrev main_call2_v3 : Ref sig .tc := ⟨.hbm, 63, rfl⟩
abbrev main_call2_cst_0 : Ref sig .tc := ⟨.hbm, 64, rfl⟩
abbrev main_call2_v4 : Ref sig .tc := ⟨.hbm, 65, rfl⟩
abbrev main_call2_v5 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_4 : Ref sig .tc := ⟨.hbm, 80, rfl⟩
abbrev main_v50 : Ref sig .tc := ⟨.hbm, 81, rfl⟩
abbrev main_v51 : Ref sig .tc := ⟨.hbm, 82, rfl⟩
abbrev main_cst_5 : Ref sig .tc := ⟨.hbm, 83, rfl⟩
abbrev main_v52 : Ref sig .tc := ⟨.hbm, 84, rfl⟩
abbrev main_v53 : Ref sig .tc := ⟨.hbm, 85, rfl⟩
abbrev main_cst_6 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_7 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_v62 : Ref sig .tc := ⟨.hbm, 99, rfl⟩

abbrev nD : Nat := 1
abbrev τ : Topo := Topo.v7x

variable {F : FTy → Type} [FloatOps F]
-- ==== Kernel3.lean ====
abbrev S8x256x1024 : Shape := ⟨3, ![8, 256, 1024]⟩
abbrev S1024 : Shape := ⟨1, ![1024]⟩
abbrev S1024x1024 : Shape := ⟨2, ![1024, 1024]⟩
abbrev S1x1024 : Shape := ⟨2, ![1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 9
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1x1024, .f32⟩
  | .hbm, ⟨5, _⟩ => ⟨S1024x1024, .bf16⟩
  | .hbm, ⟨6, _⟩ => ⟨S1024x1024, .bf16⟩
  | .hbm, ⟨7, _⟩ => ⟨S8x256x1024, .bf16⟩
  | .hbm, ⟨8, _⟩ => ⟨S8x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S8x256x1024 : Shape := ⟨3, ![8, 256, 1024]⟩
abbrev S1024 : Shape := ⟨1, ![1024]⟩
abbrev S1024x1024 : Shape := ⟨2, ![1024, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S8x256x1024, .f32⟩
  | .hbm, ⟨21, _⟩ => ⟨S8x256x1024, .bf16⟩
  | .hbm, ⟨22, _⟩ => ⟨S8x256x1024, .f32⟩
  | .hbm, ⟨23, _⟩ => ⟨S8x256x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel4.lean ====
abbrev S8x2048x1024 : Shape := ⟨3, ![8, 2048, 1024]⟩
abbrev S8x2048x512 : Shape := ⟨3, ![8, 2048, 512]⟩
abbrev S512x512 : Shape := ⟨2, ![512, 512]⟩
abbrev S512 : Shape := ⟨1, ![512]⟩
abbrev S1024x1024 : Shape := ⟨2, ![1024, 1024]⟩
abbrev S1024 : Shape := ⟨1, ![1024]⟩
abbrev S8x256x1024 : Shape := ⟨3, ![8, 256, 1024]⟩
abbrev S1024x16x4x128 : Shape := ⟨4, ![1024, 16, 4, 128]⟩
abbrev S4x1024x16x128 : Shape := ⟨4, ![4, 1024, 16, 128]⟩
abbrev S4x1024x2048 : Shape := ⟨3, ![4, 1024, 2048]⟩
abbrev S16384x1024 : Shape := ⟨2, ![16384, 1024]⟩
abbrev S16384x512 : Shape := ⟨2, ![16384, 512]⟩
abbrev S1x512 : Shape := ⟨2, ![1, 512]⟩
abbrev S1x1024 : Shape := ⟨2, ![1, 1024]⟩
abbrev S16384x1152 : Shape := ⟨2, ![16384, 1152]⟩
abbrev S1024x512 : Shape := ⟨2, ![1024, 512]⟩
abbrev S4x64x2048 : Shape := ⟨3, ![4, 64, 2048]⟩
abbrev S1x256x1024 : Shape := ⟨3, ![1, 256, 1024]⟩
abbrev S1024x1152 : Shape := ⟨2, ![1024, 1152]⟩
abbrev S4x1024x128 : Shape := ⟨3, ![4, 1024, 128]⟩
abbrev S1x32x128 : Shape := ⟨3, ![1, 32, 128]⟩
abbrev S32x128 : Shape := ⟨2, ![32, 128]⟩
abbrev S1x512x128 : Shape := ⟨3, ![1, 512, 128]⟩
abbrev S512x128 : Shape := ⟨2, ![512, 128]⟩
abbrev S512x1 : Shape := ⟨2, ![512, 1]⟩
abbrev S512x1024 : Shape := ⟨2, ![512, 1024]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 31
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S8x256x1024, .f32⟩
  | .hbm, ⟨12, _⟩ => ⟨S8x256x1024, .f32⟩
  | .hbm, ⟨13, _⟩ => ⟨S8x2048x512, .bf16⟩
  | .hbm, ⟨14, _⟩ => ⟨S1024x16x4x128, .bf16⟩
  | .hbm, ⟨15, _⟩ => ⟨S4x1024x16x128, .bf16⟩
  | .hbm, ⟨16, _⟩ => ⟨S4x1024x2048, .bf16⟩
  | .hbm, ⟨17, _⟩ => ⟨S16384x1024, .f32⟩
  | .hbm, ⟨18, _⟩ => ⟨S8x2048x512, .bf16⟩
  | .hbm, ⟨19, _⟩ => ⟨S16384x512, .bf16⟩
  | .hbm, ⟨20, _⟩ => ⟨S8x256x1024, .bf16⟩
  | .hbm, ⟨21, _⟩ => ⟨S8x256x1024, .bf16⟩
  | .hbm, ⟨22, _⟩ => ⟨S512x512, .bf16⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S1024x1024, .bf16⟩
  | .hbm, ⟨27, _⟩ => ⟨S1x1024, .f32⟩
  | .hbm, ⟨28, _⟩ => ⟨S1024x1024, .bf16⟩
  | .hbm, ⟨29, _⟩ => ⟨S1024x1024, .bf16⟩
  | .hbm, ⟨30, _⟩ => ⟨S16384x1152, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S4x64x2048, .bf16⟩
  | .local _ .vmem, ⟨5, _⟩ => ⟨S4x64x2048, .bf16⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1024x1152, .f32⟩
  | .local _ .vmem, ⟨19, _⟩ => ⟨S1024x1152, .f32⟩
  | .local _ .vmem, ⟨20, _⟩ => ⟨S4x1024x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1152 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S8x2048x1024 : Shape := ⟨3, ![8, 2048, 1024]⟩
abbrev S8x2048x512 : Shape := ⟨3, ![8, 2048, 512]⟩
abbrev S512x512 : Shape := ⟨2, ![512, 512]⟩
abbrev S512 : Shape := ⟨1, ![512]⟩
abbrev S1024x1024 : Shape := ⟨2, ![1024, 1024]⟩
abbrev S1024 : Shape := ⟨1, ![1024]⟩
abbrev S8x256x1024 : Shape := ⟨3, ![8, 256, 1024]⟩
abbrev S1x1x512 : Shape := ⟨3, ![1, 1, 512]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4x256 : Shape := ⟨4, ![8, 2048, 4, 256]⟩
abbrev S8x256x4x256 : Shape := ⟨4, ![8, 256, 4, 256]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩
abbrev S8x2048x128 : Shape := ⟨3, ![8, 2048, 128]⟩
abbrev S8x2048x1152 : Shape := ⟨3, ![8, 2048, 1152]⟩
abbrev S16384x1152 : Shape := ⟨2, ![16384, 1152]⟩

abbrev nBuf : Space → Nat
  | .hbm => 108
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S8x256x1024, .f32⟩
  | .hbm, ⟨12, _⟩ => ⟨S8x256x1024, .f32⟩
  | .hbm, ⟨13, _⟩ => ⟨S8x2048x512, .f32⟩
  | .hbm, ⟨14, _⟩ => ⟨S1x1x512, .f32⟩
  | .hbm, ⟨15, _⟩ => ⟨S8x2048x512, .f32⟩
  | .hbm, ⟨16, _⟩ => ⟨S8x2048x512, .f32⟩
  | .hbm, ⟨17, _⟩ => ⟨S8x2048x512, .f32⟩
  | .hbm, ⟨18, _⟩ => ⟨S8x2048x512, .f32⟩
  | .hbm, ⟨19, _⟩ => ⟨S_, .f32⟩
  | .hbm, ⟨20, _⟩ => ⟨S8x2048x512, .f32⟩
  | .hbm, ⟨21, _⟩ => ⟨S8x2048x512, .f32⟩
  | .hbm, ⟨22, _⟩ => ⟨S_, .f32⟩
  | .hbm, ⟨23, _⟩ => ⟨S8x2048x512, .f32⟩
  | .hbm, ⟨24, _⟩ => ⟨S8x2048x512, .f32⟩
  | .hbm, ⟨25, _⟩ => ⟨S8x2048x512, .f32⟩
  | .hbm, ⟨26, _⟩ => ⟨S8x2048x512, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S8x2048x1, .f32⟩
  | .hbm, ⟨37, _⟩ => ⟨S8x2048x512, .f32⟩
  | .hbm, ⟨38, _⟩ => ⟨S8x2048x512, .f32⟩
  | .hbm, ⟨39, _⟩ => ⟨S1x1x512, .f32⟩
  | .hbm, ⟨40, _⟩ => ⟨S8x2048x512, .f32⟩
  | .hbm, ⟨41, _⟩ => ⟨S8x2048x512, .f32⟩
  | .hbm, ⟨42, _⟩ => ⟨S8x2048x512, .f32⟩
  | .hbm, ⟨43, _⟩ => ⟨S_, .f32⟩
  | .hbm, ⟨44, _⟩ => ⟨S8x2048, .f32⟩
  | .hbm, ⟨45, _⟩ => ⟨S8x2048x1, .f32⟩
  | .hbm, ⟨46, _⟩ => ⟨S_, .f32⟩
  | .hbm, ⟨47, _⟩ => ⟨S8x2048x1, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S8x2048x1, .f32⟩
  | .hbm, ⟨53, _⟩ => ⟨S8x2048x512, .f32⟩
  | .hbm, ⟨54, _⟩ => ⟨S8x2048x512, .f32⟩
  | .hbm, ⟨55, _⟩ => ⟨S1x1x512, .f32⟩
  | .hbm, ⟨56, _⟩ => ⟨S8x2048x512, .f32⟩
  | .hbm, ⟨57, _⟩ => ⟨S8x2048x512, .f32⟩
  | .hbm, ⟨58, _⟩ => ⟨S8x2048x1024, .f32⟩
  | .hbm, ⟨59, _⟩ => ⟨S8x2048x1024, .f32⟩
  | .hbm, ⟨60, _⟩ => ⟨S8x2048x1024, .f32⟩
  | .hbm, ⟨61, _⟩ => ⟨S8x2048x1024, .f32⟩
  | .hbm, ⟨62, _⟩ => ⟨S_, .f32⟩
  | .hbm, ⟨63, _⟩ => ⟨S8x2048, .f32⟩
  | .hbm, ⟨64, _⟩ => ⟨S8x2048x1, .f32⟩
  | .hbm, ⟨65, _⟩ => ⟨S_, .f32⟩
  | .hbm, ⟨66, _⟩ => ⟨S8x2048x1, .f32⟩
  | .hbm, ⟨67, _⟩ => ⟨S8x2048x1, .f32⟩
  | .hbm, ⟨68, _⟩ => ⟨S_, .f32⟩
  | .hbm, ⟨69, _⟩ => ⟨S8x2048x1, .f32⟩
  | .hbm, ⟨70, _⟩ => ⟨S8x2048x1, .f32⟩
  | .hbm, ⟨71, _⟩ => ⟨S8x2048x1, .f32⟩
  | .hbm, ⟨72, _⟩ => ⟨S8x2048x1024, .f32⟩
  | .hbm, ⟨73, _⟩ => ⟨S8x2048x1024, .f32⟩
  | .hbm, ⟨74, _⟩ => ⟨S1x1x1024, .f32⟩
  | .hbm, ⟨75, _⟩ => ⟨S8x2048x1024, .f32⟩
  | .hbm, ⟨76, _⟩ => ⟨S8x2048x1024, .f32⟩
  | .hbm, ⟨77, _⟩ => ⟨S8x2048x1024, .f32⟩
  | .hbm, ⟨78, _⟩ => ⟨S8x2048x4x256, .f32⟩
  | .hbm, ⟨79, _⟩ => ⟨S8x256x4x256, .f32⟩
  | .hbm, ⟨80, _⟩ => ⟨S8x256x4x256, .f32⟩
  | .hbm, ⟨81, _⟩ => ⟨S8x4x2048x256, .f32⟩
  | .hbm, ⟨82, _⟩ => ⟨S_, .f32⟩
  | .hbm, ⟨83, _⟩ => ⟨S8x4x2048x256, .f32⟩
  | .hbm, ⟨84, _⟩ => ⟨S8x4x2048x256, .f32⟩
  | .hbm, ⟨85, _⟩ => ⟨S_, .f32⟩
  | .hbm, ⟨86, _⟩ => ⟨S8x4x2048, .f32⟩
  | .hbm, ⟨87, _⟩ => ⟨S_, .f32⟩
  | .hbm, ⟨88, _⟩ => ⟨S8x4x2048, .f32⟩
  | .hbm, ⟨89, _⟩ => ⟨S8x4x2048, .f32⟩
  | .hbm, ⟨90, _⟩ => ⟨S8x4x2048x1, .f32⟩
  | .hbm, ⟨91, _⟩ => ⟨S8x4x2048x256, .f32⟩
  | .hbm, ⟨92, _⟩ => ⟨S8x4x2048x256, .f32⟩
  | .hbm, ⟨93, _⟩ => ⟨S8x4x2048x256, .f32⟩
  | .hbm, ⟨94, _⟩ => ⟨S_, .f32⟩
  | .hbm, ⟨95, _⟩ => ⟨S8x4x2048, .f32⟩
  | .hbm, ⟨96, _⟩ => ⟨S8x4x2048x1, .f32⟩
  | .hbm, ⟨97, _⟩ => ⟨S8x4x2048x256, .f32⟩
  | .hbm, ⟨98, _⟩ => ⟨S8x4x2048x256, .f32⟩
  | .hbm, ⟨99, _⟩ => ⟨S8x4x256x2048, .f32⟩
  | .hbm, ⟨100, _⟩ => ⟨S8x2048x4x256, .f32⟩
  | .hbm, ⟨101, _⟩ => ⟨S8x2048x1024, .f32⟩
  | .hbm, ⟨102, _⟩ => ⟨S8x2048x1024, .f32⟩
  | .hbm, ⟨103, _⟩ => ⟨S8x2048x1024, .f32⟩
  | .hbm, ⟨104, _⟩ => ⟨S_, .f32⟩
  | .hbm, ⟨105, _⟩ => ⟨S8x2048x128, .f32⟩
  | .hbm, ⟨106, _⟩ => ⟨S8x2048x1152, .f32⟩
  | .hbm, ⟨107, _⟩ => ⟨S16384x1152, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_13 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩

abbrev nD : Nat := 1
abbrev τ : Topo := Topo.v7x

variable {F : FTy → Type} [FloatOps F]
-- ==== Proof.AttnUnit.lean ====
/- One unit of the attention kernel's grid point, as a function of the query rows it reads and of the masked keys and values it keeps in scratch: the running maximum over the eight
   key chunks, the exponentials stored chunk by chunk, and the two normalised products selected lane by lane. Stated once, in the printed operations; the eight units of a point and both
   cases of the grid are instances. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section
set_option maxRecDepth 16384
noncomputable section
namespace Cert.KernelIdeal.Attn
open Cert.KernelIdeal Cert.KernelIdeal.Gen Idealize.ShloMosaic Idealize.ShloMosaic.TcCoe Idealize.SL.Sem

/-- One chunk of 256 keys' scores against 256 query rows. -/
def scoreU (q : Vec Ideal S1x256x128 .bf16) (k : FVec Ideal S256x128 .bf16) : FVec Ideal S256x256 .f32 :=
  matmul dot_S256x128_S256x128_S256x256_1_1_0_0_n_n none (shapeCast S256x128 q shapeCasts_S1x256x128_S256x128 : FVec Ideal S256x128 .bf16) k (constant S256x256 .f32 0x00000000#32)

/-- The two halves of a chunk's scores, as 128 lanes each. -/
def halfL (s : FVec Ideal S256x256 .f32) : FVec Ideal S256x128 .f32 := extractStridedSlice S256x128 ![0, 0] s slices_S256x256_o0_0_S256x128
def halfR (s : FVec Ideal S256x256 .f32) : FVec Ideal S256x128 .f32 := extractStridedSlice S256x128 ![0, 128] s slices_S256x256_o0_128_S256x128

/-- The maximum of each row's scores over the eight chunks. -/
def maxU (s0 s1 s2 s3 s4 s5 s6 s7 : FVec Ideal S256x256 .f32) : FVec Ideal S256x1 .f32 :=
  shapeCast S256x1 (multiReduction .maximumf [1] S256
    (maximumf (maximumf (maximumf (maximumf (maximumf (maximumf (maximumf (maximumf (maximumf (maximumf (maximumf (maximumf (maximumf (maximumf (maximumf
      (halfL s0) (halfR s0)) (halfL s1)) (halfR s1)) (halfL s2)) (halfR s2)) (halfL s3)) (halfR s3)) (halfL s4)) (halfR s4)) (halfL s5)) (halfR s5)) (halfL s6)) (halfR s6)) (halfL s7)) (halfR s7))
    0xFF800000#32 reduces_S256x128_S256 (.inl rfl) rfl) shapeCasts_S256_S256x1

/-- One chunk's exponentials, above the row maximum. -/
def expU (mx : FVec Ideal S256x1 .f32) (s : FVec Ideal S256x256 .f32) : FVec Ideal S1x256x256 .bf16 :=
  shapeCast S1x256x256 (truncf .bf16 (exp (subf (shapeCast S256x256 (shapeCast S1x256x256 s shapeCasts_S256x256_S1x256x256 : Vec Ideal S1x256x256 .f32) shapeCasts_S1x256x256_S256x256 : FVec Ideal S256x256 .f32)
    (broadcastTo S256x256 mx broadcasts_S256x1_S256x256))) bitsLt_bf16_f32 : FVec Ideal S256x256 .bf16) shapeCasts_S256x256_S1x256x256

/-- The weights against the masked values. -/
def prodU (e : Vec Ideal S1x256x2048 .bf16) (v : FVec Ideal S2048x128 .bf16) : FVec Ideal S256x128 .f32 :=
  matmul dot_S256x2048_S2048x128_S256x128_1_0_0_1_n_n none (shapeCast S256x2048 e shapeCasts_S1x256x2048_S256x2048 : FVec Ideal S256x2048 .bf16) v (constant S256x128 .f32 0x00000000#32)

/-- The product over its own lane 64 (the sum of the weights, for the heads on the low lanes). -/
def normLo (a : FVec Ideal S256x128 .f32) : FVec Ideal S256x128 .f32 :=
  mulf a (broadcastTo S256x128 (divf (broadcast S256x1 (Scalar.ofBits .f32 0x3F800000#32) : FVec Ideal S256x1 .f32) (extractStridedSlice S256x1 ![0, 64] a slices_S256x128_o0_64_S256x1)) broadcasts_S256x1_S256x128)

/-- The product over its own lane 0 (the sum of the weights, for the heads on the high lanes). -/
def normHi (a : FVec Ideal S256x128 .f32) : FVec Ideal S256x128 .f32 :=
  mulf a (broadcastTo S256x128 (divf (broadcast S256x1 (Scalar.ofBits .f32 0x3F800000#32) : FVec Ideal S256x1 .f32) (extractStridedSlice S256x1 ![0, 0] a slices_S256x128_o0_0_S256x1)) broadcasts_S256x1_S256x128)

/-- The block stored: low lanes from one head, high lanes from the other. -/
def joinU (a b : FVec Ideal S256x128 .f32) : FVec Ideal S1x256x128 .bf16 :=
  shapeCast S1x256x128 (truncf .bf16 (select (cmpi .slt (iota .tc S256x128 32 [1] iota_S256x128_d1_w32) (broadcast S256x128 64#32)) a b : FVec Ideal S256x128 .f32) bitsLt_bf16_f32 : FVec Ideal S256x128 .bf16) shapeCasts_S256x128_S1x256x128

/-- Chunk `o` of the keys. -/
abbrev ck0 (K : Vec Ideal S2048x128 .bf16) : Vec Ideal S256x128 .bf16 := View.ld K (Rect.unit ![0, 0] ![256, 128] inb_S2048x128_S256x128_0_0)
abbrev ck1 (K : Vec Ideal S2048x128 .bf16) : Vec Ideal S256x128 .bf16 := View.ld K (Rect.unit ![256, 0] ![256, 128] inb_S2048x128_S256x128_256_0)
abbrev ck2 (K : Vec Ideal S2048x128 .bf16) : Vec Ideal S256x128 .bf16 := View.ld K (Rect.unit ![512, 0] ![256, 128] inb_S2048x128_S256x128_512_0)
abbrev ck3 (K : Vec Ideal S2048x128 .bf16) : Vec Ideal S256x128 .bf16 := View.ld K (Rect.unit ![768, 0] ![256, 128] inb_S2048x128_S256x128_768_0)
abbrev ck4 (K : Vec Ideal S2048x128 .bf16) : Vec Ideal S256x128 .bf16 := View.ld K (Rect.unit ![1024, 0] ![256, 128] inb_S2048x128_S256x128_1024_0)
abbrev ck5 (K : Vec Ideal S2048x128 .bf16) : Vec Ideal S256x128 .bf16 := View.ld K (Rect.unit ![1280, 0] ![256, 128] inb_S2048x128_S256x128_1280_0)
abbrev ck6 (K : Vec Ideal S2048x128 .bf16) : Vec Ideal S256x128 .bf16 := View.ld K (Rect.unit ![1536, 0] ![256, 128] inb_S2048x128_S256x128_1536_0)
abbrev ck7 (K : Vec Ideal S2048x128 .bf16) : Vec Ideal S256x128 .bf16 := View.ld K (Rect.unit ![1792, 0] ![256, 128] inb_S2048x128_S256x128_1792_0)

/-- The row maxima of the scores against all the keys. -/
def maxK (q : Vec Ideal S1x256x128 .bf16) (K : Vec Ideal S2048x128 .bf16) : FVec Ideal S256x1 .f32 :=
  maxU (scoreU q (ck0 K)) (scoreU q (ck1 K)) (scoreU q (ck2 K)) (scoreU q (ck3 K)) (scoreU q (ck4 K)) (scoreU q (ck5 K)) (scoreU q (ck6 K)) (scoreU q (ck7 K))

/-- The weights as the even head's stores leave them in scratch, read back whole. -/
def wtE (q : Vec Ideal S1x256x128 .bf16) (K : Vec Ideal S2048x128 .bf16) (L : List (View.Piece (Elt Ideal) S2x256x2048 .bf16)) : Vec Ideal S1x256x2048 .bf16 :=
  View.readCov (Val := Elt Ideal) (s := S2x256x2048) (e := .bf16) (View.whole cc0_scratch5)
    (⟨Rect.unit (s := S2x256x2048) ![0, 0, 1792] ![1, 256, 256] inb_S2x256x2048_S1x256x256_0_0_1792, expU (maxK q K) (scoreU q (ck7 K))⟩
    :: ⟨Rect.unit (s := S2x256x2048) ![0, 0, 1536] ![1, 256, 256] inb_S2x256x2048_S1x256x256_0_0_1536, expU (maxK q K) (scoreU q (ck6 K))⟩
    :: ⟨Rect.unit (s := S2x256x2048) ![0, 0, 1280] ![1, 256, 256] inb_S2x256x2048_S1x256x256_0_0_1280, expU (maxK q K) (scoreU q (ck5 K))⟩
    :: ⟨Rect.unit (s := S2x256x2048) ![0, 0, 1024] ![1, 256, 256] inb_S2x256x2048_S1x256x256_0_0_1024, expU (maxK q K) (scoreU q (ck4 K))⟩
    :: ⟨Rect.unit (s := S2x256x2048) ![0, 0, 768] ![1, 256, 256] inb_S2x256x2048_S1x256x256_0_0_768, expU (maxK q K) (scoreU q (ck3 K))⟩
    :: ⟨Rect.unit (s := S2x256x2048) ![0, 0, 512] ![1, 256, 256] inb_S2x256x2048_S1x256x256_0_0_512, expU (maxK q K) (scoreU q (ck2 K))⟩
    :: ⟨Rect.unit (s := S2x256x2048) ![0, 0, 256] ![1, 256, 256] inb_S2x256x2048_S1x256x256_0_0_256, expU (maxK q K) (scoreU q (ck1 K))⟩
    :: ⟨Rect.unit (s := S2x256x2048) ![0, 0, 0] ![1, 256, 256] inb_S2x256x2048_S1x256x256_0_0_0, expU (maxK q K) (scoreU q (ck0 K))⟩ :: L)
    (Rect.unit (s := S2x256x2048) ![0, 0, 0] ![1, 256, 2048] inb_S2x256x2048_S1x256x2048_0_0_0).toLoadRect

/-- The same for the odd head, in the other slot. -/
def wtO (q : Vec Ideal S1x256x128 .bf16) (K : Vec Ideal S2048x128 .bf16) (L : List (View.Piece (Elt Ideal) S2x256x2048 .bf16)) : Vec Ideal S1x256x2048 .bf16 :=
  View.readCov (Val := Elt Ideal) (s := S2x256x2048) (e := .bf16) (View.whole cc0_scratch5)
    (⟨Rect.unit (s := S2x256x2048) ![1, 0, 1792] ![1, 256, 256] inb_S2x256x2048_S1x256x256_1_0_1792, expU (maxK q K) (scoreU q (ck7 K))⟩
    :: ⟨Rect.unit (s := S2x256x2048) ![1, 0, 1536] ![1, 256, 256] inb_S2x256x2048_S1x256x256_1_0_1536, expU (maxK q K) (scoreU q (ck6 K))⟩
    :: ⟨Rect.unit (s := S2x256x2048) ![1, 0, 1280] ![1, 256, 256] inb_S2x256x2048_S1x256x256_1_0_1280, expU (maxK q K) (scoreU q (ck5 K))⟩
    :: ⟨Rect.unit (s := S2x256x2048) ![1, 0, 1024] ![1, 256, 256] inb_S2x256x2048_S1x256x256_1_0_1024, expU (maxK q K) (scoreU q (ck4 K))⟩
    :: ⟨Rect.unit (s := S2x256x2048) ![1, 0, 768] ![1, 256, 256] inb_S2x256x2048_S1x256x256_1_0_768, expU (maxK q K) (scoreU q (ck3 K))⟩
    :: ⟨Rect.unit (s := S2x256x2048) ![1, 0, 512] ![1, 256, 256] inb_S2x256x2048_S1x256x256_1_0_512, expU (maxK q K) (scoreU q (ck2 K))⟩
    :: ⟨Rect.unit (s := S2x256x2048) ![1, 0, 256] ![1, 256, 256] inb_S2x256x2048_S1x256x256_1_0_256, expU (maxK q K) (scoreU q (ck1 K))⟩
    :: ⟨Rect.unit (s := S2x256x2048) ![1, 0, 0] ![1, 256, 256] inb_S2x256x2048_S1x256x256_1_0_0, expU (maxK q K) (scoreU q (ck0 K))⟩ :: L)
    (Rect.unit (s := S2x256x2048) ![1, 0, 0] ![1, 256, 2048] inb_S2x256x2048_S1x256x2048_1_0_0).toLoadRect

/-- What one unit stores. -/
def outU (q : Vec Ideal S1x256x128 .bf16) (Kl Kh Vl Vh : Vec Ideal S2048x128 .bf16) (L L' : List (View.Piece (Elt Ideal) S2x256x2048 .bf16)) : FVec Ideal S1x256x128 .bf16 :=
  joinU (normLo (prodU (wtE q Kl L) Vl)) (normHi (prodU (wtO q Kh L') Vh))

end Cert.KernelIdeal.Attn
end
-- ==== Proof.AttnValue.lean ====
module

public import proofs.«01_k».proof.Proof.AttnUnit

@[expose] public section
set_option maxRecDepth 16384
noncomputable section
namespace Cert.KernelIdeal.Attn
open Cert.KernelIdeal Cert.KernelIdeal.Gen Idealize.ShloMosaic Idealize.ShloMosaic.TcCoe Idealize.SL.Sem

theorem negInf : Ideal.ofBits FTy.f32 4286578688#32 = ⊥ := by
  simp [Ideal.ofBits, Ideal.ieee]

theorem scoreU_at (q : Vec Ideal S1x256x128 .bf16) (k : FVec Ideal S256x128 .bf16) (r : Fin 256) (s : Fin 256) :
    scoreU q k (ix2 r s) = ∑ l : Fin 128, q (ix3 0 r l) * k (ix2 s l) := by
  pointwise [scoreU]

theorem expU_at (mx : FVec Ideal S256x1 .f32) (s : FVec Ideal S256x256 .f32) (r : Fin 256) (k : Fin 256) : expU mx s (ix3 0 r k) = Ideal.exp (s (ix2 r k) - mx (ix2 r 0)) := by
  pointwise [expU]

theorem prodU_at (e : Vec Ideal S1x256x2048 .bf16) (v : FVec Ideal S2048x128 .bf16) (r : Fin 256) (l : Fin 128) :
    prodU e v (ix2 r l) = ∑ s : Fin 2048, e (ix3 0 r s) * v (ix2 s l) := by
  pointwise [prodU]

theorem slt64 : ∀ l : Fin 128, IntOp.cmpi CmpIPredicate.slt (BitVec.ofNat 32 ↑l) 64#32 = if l.val < 64 then 1#1 else 0#1 := by
  decide +kernel

theorem joinU_at (a b : FVec Ideal S256x128 .f32) (r : Fin 256) (l : Fin 128)  :
    joinU (normLo a) (normHi b) (ix3 0 r l) = if l.val < 64 then a (ix2 r l) * Ideal.div 1 (a (ix2 r 64)) else b (ix2 r l) * Ideal.div 1 (b (ix2 r 0)) := by
  pointwise [joinU, normLo, normHi]
  rw [slt64 l]
  by_cases h : l.val < 64
  · rw [if_pos h, if_pos h]; rfl
  · rw [if_neg h, if_neg h]; rfl

/-- One row's score against one key. -/
def sc (q : Vec Ideal S1x256x128 .bf16) (K : Vec Ideal S2048x128 .bf16) (r : Fin 256) (s : Fin 2048) : EReal :=
  ∑ l : Fin 128, (q (ix3 0 r l) : EReal) * (K (ix2 s l) : EReal)

theorem score_ck (q : Vec Ideal S1x256x128 .bf16) (K : Vec Ideal S2048x128 .bf16) (o : ℕ) (inb) (r : Fin 256) (s : Fin 256) (h : o + s.val < 2048) :
    scoreU q (View.ld K (Rect.unit (s := S2048x128) ![o, 0] ![256, 128] inb)) (ix2 r s) = sc q K r ⟨o + s.val, h⟩ := by
  rw [scoreU_at]
  unfold sc
  refine Finset.sum_congr rfl fun l _ => ?_
  congr 1
  pointwise

theorem maxK_at (q : Vec Ideal S1x256x128 .bf16) (K : Vec Ideal S2048x128 .bf16) (r : Fin 256) :
    maxK q K (ix2 r 0) = Finset.univ.fold max ⊥ (sc q K r) := by
  unfold maxK
  pointwise [maxU, halfL, halfR]
  rw [negInf]
  simp (disch := (dsimp only; omega)) only [ck0, ck1, ck2, ck3, ck4, ck5, ck6, ck7, score_ck]
  refine eq_of_forall_ge_iff fun z => ?_
  rw [Finset.fold_max_le, Finset.fold_max_le]
  refine and_congr_right fun _ => ⟨fun h s _ => ?_, fun h x _ => ?_⟩
  · obtain ⟨s, hs⟩ := s
    obtain ⟨d, u, hd, hu, e⟩ : ∃ d u, d < 16 ∧ u < 128 ∧ s = 128 * d + u := ⟨s / 128, s % 128, by omega, by omega, by omega⟩
    have h' := h ⟨u, hu⟩ (Finset.mem_univ _)
    simp only [max_le_iff] at h'
    subst e
    obtain ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ := h'
    interval_cases d
    · convert h0 using 3 <;> omega
    · convert h1 using 3 <;> omega
    · convert h2 using 3 <;> omega
    · convert h3 using 3 <;> omega
    · convert h4 using 3 <;> omega
    · convert h5 using 3 <;> omega
    · convert h6 using 3 <;> omega
    · convert h7 using 3 <;> omega
    · convert h8 using 3 <;> omega
    · convert h9 using 3 <;> omega
    · convert h10 using 3 <;> omega
    · convert h11 using 3 <;> omega
    · convert h12 using 3 <;> omega
    · convert h13 using 3 <;> omega
    · convert h14 using 3 <;> omega
    · convert h15 using 3 <;> omega
  · simp only [max_le_iff]
    refine ⟨⟨⟨⟨⟨⟨⟨⟨⟨⟨⟨⟨⟨⟨⟨?_, ?_⟩, ?_⟩, ?_⟩, ?_⟩, ?_⟩, ?_⟩, ?_⟩, ?_⟩, ?_⟩, ?_⟩, ?_⟩, ?_⟩, ?_⟩, ?_⟩, ?_⟩ <;> exact h _ (Finset.mem_univ _)

/-- One row's weight of one key. -/
def wt (q : Vec Ideal S1x256x128 .bf16) (K : Vec Ideal S2048x128 .bf16) (r : Fin 256) (s : Fin 2048) : EReal :=
  Ideal.exp (sc q K r s - Finset.univ.fold max ⊥ (sc q K r))

theorem exp_ck (q : Vec Ideal S1x256x128 .bf16) (K : Vec Ideal S2048x128 .bf16) (o : ℕ) (inb) (x : S1x256x256.Idx) (j : S2x256x2048.Idx)
    (h1 : (j 1).val = (x 1).val) (h2 : (j 2).val = o + (x 2).val) :
    expU (maxK q K) (scoreU q (View.ld K (Rect.unit (s := S2048x128) ![o, 0] ![256, 128] inb))) x = wt q K (j 1) (j 2) := by
  idx_vars x
  obtain rfl : x0 = 0 := Subsingleton.elim _ _
  have hs : o + x2.val < 2048 := h2 ▸ (j 2).isLt
  rw [expU_at, maxK_at, score_ck q K o inb x1 x2 hs]
  have e1 : x1 = j 1 := Fin.ext h1.symm
  have e2 : (⟨o + x2.val, hs⟩ : Fin 2048) = j 2 := Fin.ext h2.symm
  rw [e1, e2]
  rfl

theorem mem_lane (σ o : ℕ) (inb) (j : S2x256x2048.Idx) (h0 : (j 0).val = σ) (h : o ≤ (j 2).val) (h' : (j 2).val < o + 256) :
    j ∈ (Rect.unit (s := S2x256x2048) ![σ, 0, o] ![1, 256, 256] inb).set := by
  rw [Rect.mem_set_unit]
  intro a
  have h1 : (j 1).val < 256 := (j 1).isLt
  fin_cases a
  · exact ⟨h0.ge, by change (j 0).val < σ + 1; omega⟩
  · exact ⟨Nat.zero_le _, by change (j 1).val < 0 + 256; omega⟩
  · exact ⟨h, h'⟩

theorem wtE_at (q : Vec Ideal S1x256x128 .bf16) (K : Vec Ideal S2048x128 .bf16) (L : List (View.Piece (Elt Ideal) S2x256x2048 .bf16)) (r : Fin 256) (s : Fin 2048) :
    wtE q K L (ix3 0 r s) = wt q K r s := by
  unfold wtE
  rw [View.readCov_eq_canon']
  have c0 : ((Rect.unit (s := S2x256x2048) ![0, 0, 0] ![1, 256, 2048] inb_S2x256x2048_S1x256x2048_0_0_0).idx (ix3 0 r s) 0).val = 0 := rfl
  have c1 : (Rect.unit (s := S2x256x2048) ![0, 0, 0] ![1, 256, 2048] inb_S2x256x2048_S1x256x2048_0_0_0).idx (ix3 0 r s) 1 = r :=
    Fin.ext (show 0 + 1 * r.val = r.val by omega)
  have c2 : (Rect.unit (s := S2x256x2048) ![0, 0, 0] ![1, 256, 2048] inb_S2x256x2048_S1x256x2048_0_0_0).idx (ix3 0 r s) 2 = s :=
    Fin.ext (show 0 + 1 * s.val = s.val by omega)
  refine (View.canon_append_of_piecesOf (fun j : S2x256x2048.Idx => wt q K (j 1) (j 2)) L [_, _, _, _, _, _, _, _] ?_ _ ?_).trans ?_
  · refine ⟨fun x => ?_, fun x => ?_, fun x => ?_, fun x => ?_, fun x => ?_, fun x => ?_, fun x => ?_, fun x => ?_, trivial⟩
    · exact exp_ck q K 1792 _ x _ ((ValueKit.rect_emb_unit_val (s := S2x256x2048) ![0, 0, 1792] ![1, 256, 256] inb_S2x256x2048_S1x256x256_0_0_1792 x 1).trans (Nat.zero_add _)) (ValueKit.rect_emb_unit_val (s := S2x256x2048) ![0, 0, 1792] ![1, 256, 256] inb_S2x256x2048_S1x256x256_0_0_1792 x 2)
    · exact exp_ck q K 1536 _ x _ ((ValueKit.rect_emb_unit_val (s := S2x256x2048) ![0, 0, 1536] ![1, 256, 256] inb_S2x256x2048_S1x256x256_0_0_1536 x 1).trans (Nat.zero_add _)) (ValueKit.rect_emb_unit_val (s := S2x256x2048) ![0, 0, 1536] ![1, 256, 256] inb_S2x256x2048_S1x256x256_0_0_1536 x 2)
    · exact exp_ck q K 1280 _ x _ ((ValueKit.rect_emb_unit_val (s := S2x256x2048) ![0, 0, 1280] ![1, 256, 256] inb_S2x256x2048_S1x256x256_0_0_1280 x 1).trans (Nat.zero_add _)) (ValueKit.rect_emb_unit_val (s := S2x256x2048) ![0, 0, 1280] ![1, 256, 256] inb_S2x256x2048_S1x256x256_0_0_1280 x 2)
    · exact exp_ck q K 1024 _ x _ ((ValueKit.rect_emb_unit_val (s := S2x256x2048) ![0, 0, 1024] ![1, 256, 256] inb_S2x256x2048_S1x256x256_0_0_1024 x 1).trans (Nat.zero_add _)) (ValueKit.rect_emb_unit_val (s := S2x256x2048) ![0, 0, 1024] ![1, 256, 256] inb_S2x256x2048_S1x256x256_0_0_1024 x 2)
    · exact exp_ck q K 768 _ x _ ((ValueKit.rect_emb_unit_val (s := S2x256x2048) ![0, 0, 768] ![1, 256, 256] inb_S2x256x2048_S1x256x256_0_0_768 x 1).trans (Nat.zero_add _)) (ValueKit.rect_emb_unit_val (s := S2x256x2048) ![0, 0, 768] ![1, 256, 256] inb_S2x256x2048_S1x256x256_0_0_768 x 2)
    · exact exp_ck q K 512 _ x _ ((ValueKit.rect_emb_unit_val (s := S2x256x2048) ![0, 0, 512] ![1, 256, 256] inb_S2x256x2048_S1x256x256_0_0_512 x 1).trans (Nat.zero_add _)) (ValueKit.rect_emb_unit_val (s := S2x256x2048) ![0, 0, 512] ![1, 256, 256] inb_S2x256x2048_S1x256x256_0_0_512 x 2)
    · exact exp_ck q K 256 _ x _ ((ValueKit.rect_emb_unit_val (s := S2x256x2048) ![0, 0, 256] ![1, 256, 256] inb_S2x256x2048_S1x256x256_0_0_256 x 1).trans (Nat.zero_add _)) (ValueKit.rect_emb_unit_val (s := S2x256x2048) ![0, 0, 256] ![1, 256, 256] inb_S2x256x2048_S1x256x256_0_0_256 x 2)
    · exact exp_ck q K 0 _ x _ ((ValueKit.rect_emb_unit_val (s := S2x256x2048) ![0, 0, 0] ![1, 256, 256] inb_S2x256x2048_S1x256x256_0_0_0 x 1).trans (Nat.zero_add _)) (ValueKit.rect_emb_unit_val (s := S2x256x2048) ![0, 0, 0] ![1, 256, 256] inb_S2x256x2048_S1x256x256_0_0_0 x 2)
  · have e2 := congrArg Fin.val c2
    obtain ⟨d, hs, hm, hm'⟩ : ∃ d, d < 8 ∧ 256 * d ≤ s.val ∧ s.val < 256 * d + 256 := by
      have := s.isLt
      exact ⟨s.val / 256, by omega, by omega, by omega⟩
    interval_cases d
    · exact ⟨_, (List.Mem.tail _ (List.Mem.tail _ (List.Mem.tail _ (List.Mem.tail _ (List.Mem.tail _ (List.Mem.tail _ (List.Mem.tail _ (List.Mem.head _)))))))), mem_lane 0 0 inb_S2x256x2048_S1x256x256_0_0_0 _ c0 (e2 ▸ hm) (e2 ▸ hm')⟩
    · exact ⟨_, (List.Mem.tail _ (List.Mem.tail _ (List.Mem.tail _ (List.Mem.tail _ (List.Mem.tail _ (List.Mem.tail _ (List.Mem.head _))))))), mem_lane 0 256 inb_S2x256x2048_S1x256x256_0_0_256 _ c0 (e2 ▸ hm) (e2 ▸ hm')⟩
    · exact ⟨_, (List.Mem.tail _ (List.Mem.tail _ (List.Mem.tail _ (List.Mem.tail _ (List.Mem.tail _ (List.Mem.head _)))))), mem_lane 0 512 inb_S2x256x2048_S1x256x256_0_0_512 _ c0 (e2 ▸ hm) (e2 ▸ hm')⟩
    · exact ⟨_, (List.Mem.tail _ (List.Mem.tail _ (List.Mem.tail _ (List.Mem.tail _ (List.Mem.head _))))), mem_lane 0 768 inb_S2x256x2048_S1x256x256_0_0_768 _ c0 (e2 ▸ hm) (e2 ▸ hm')⟩
    · exact ⟨_, (List.Mem.tail _ (List.Mem.tail _ (List.Mem.tail _ (List.Mem.head _)))), mem_lane 0 1024 inb_S2x256x2048_S1x256x256_0_0_1024 _ c0 (e2 ▸ hm) (e2 ▸ hm')⟩
    · exact ⟨_, (List.Mem.tail _ (List.Mem.tail _ (List.Mem.head _))), mem_lane 0 1280 inb_S2x256x2048_S1x256x256_0_0_1280 _ c0 (e2 ▸ hm) (e2 ▸ hm')⟩
    · exact ⟨_, (List.Mem.tail _ (List.Mem.head _)), mem_lane 0 1536 inb_S2x256x2048_S1x256x256_0_0_1536 _ c0 (e2 ▸ hm) (e2 ▸ hm')⟩
    · exact ⟨_, (List.Mem.head _), mem_lane 0 1792 inb_S2x256x2048_S1x256x256_0_0_1792 _ c0 (e2 ▸ hm) (e2 ▸ hm')⟩
  · rw [c1, c2]

theorem wtO_at (q : Vec Ideal S1x256x128 .bf16) (K : Vec Ideal S2048x128 .bf16) (L : List (View.Piece (Elt Ideal) S2x256x2048 .bf16)) (r : Fin 256) (s : Fin 2048) :
    wtO q K L (ix3 0 r s) = wt q K r s := by
  unfold wtO
  rw [View.readCov_eq_canon']
  have c0 : ((Rect.unit (s := S2x256x2048) ![1, 0, 0] ![1, 256, 2048] inb_S2x256x2048_S1x256x2048_1_0_0).idx (ix3 0 r s) 0).val = 1 := rfl
  have c1 : (Rect.unit (s := S2x256x2048) ![1, 0, 0] ![1, 256, 2048] inb_S2x256x2048_S1x256x2048_1_0_0).idx (ix3 0 r s) 1 = r :=
    Fin.ext (show 0 + 1 * r.val = r.val by omega)
  have c2 : (Rect.unit (s := S2x256x2048) ![1, 0, 0] ![1, 256, 2048] inb_S2x256x2048_S1x256x2048_1_0_0).idx (ix3 0 r s) 2 = s :=
    Fin.ext (show 0 + 1 * s.val = s.val by omega)
  refine (View.canon_append_of_piecesOf (fun j : S2x256x2048.Idx => wt q K (j 1) (j 2)) L [_, _, _, _, _, _, _, _] ?_ _ ?_).trans ?_
  · refine ⟨fun x => ?_, fun x => ?_, fun x => ?_, fun x => ?_, fun x => ?_, fun x => ?_, fun x => ?_, fun x => ?_, trivial⟩
    · exact exp_ck q K 1792 _ x _ ((ValueKit.rect_emb_unit_val (s := S2x256x2048) ![1, 0, 1792] ![1, 256, 256] inb_S2x256x2048_S1x256x256_1_0_1792 x 1).trans (Nat.zero_add _)) (ValueKit.rect_emb_unit_val (s := S2x256x2048) ![1, 0, 1792] ![1, 256, 256] inb_S2x256x2048_S1x256x256_1_0_1792 x 2)
    · exact exp_ck q K 1536 _ x _ ((ValueKit.rect_emb_unit_val (s := S2x256x2048) ![1, 0, 1536] ![1, 256, 256] inb_S2x256x2048_S1x256x256_1_0_1536 x 1).trans (Nat.zero_add _)) (ValueKit.rect_emb_unit_val (s := S2x256x2048) ![1, 0, 1536] ![1, 256, 256] inb_S2x256x2048_S1x256x256_1_0_1536 x 2)
    · exact exp_ck q K 1280 _ x _ ((ValueKit.rect_emb_unit_val (s := S2x256x2048) ![1, 0, 1280] ![1, 256, 256] inb_S2x256x2048_S1x256x256_1_0_1280 x 1).trans (Nat.zero_add _)) (ValueKit.rect_emb_unit_val (s := S2x256x2048) ![1, 0, 1280] ![1, 256, 256] inb_S2x256x2048_S1x256x256_1_0_1280 x 2)
    · exact exp_ck q K 1024 _ x _ ((ValueKit.rect_emb_unit_val (s := S2x256x2048) ![1, 0, 1024] ![1, 256, 256] inb_S2x256x2048_S1x256x256_1_0_1024 x 1).trans (Nat.zero_add _)) (ValueKit.rect_emb_unit_val (s := S2x256x2048) ![1, 0, 1024] ![1, 256, 256] inb_S2x256x2048_S1x256x256_1_0_1024 x 2)
    · exact exp_ck q K 768 _ x _ ((ValueKit.rect_emb_unit_val (s := S2x256x2048) ![1, 0, 768] ![1, 256, 256] inb_S2x256x2048_S1x256x256_1_0_768 x 1).trans (Nat.zero_add _)) (ValueKit.rect_emb_unit_val (s := S2x256x2048) ![1, 0, 768] ![1, 256, 256] inb_S2x256x2048_S1x256x256_1_0_768 x 2)
    · exact exp_ck q K 512 _ x _ ((ValueKit.rect_emb_unit_val (s := S2x256x2048) ![1, 0, 512] ![1, 256, 256] inb_S2x256x2048_S1x256x256_1_0_512 x 1).trans (Nat.zero_add _)) (ValueKit.rect_emb_unit_val (s := S2x256x2048) ![1, 0, 512] ![1, 256, 256] inb_S2x256x2048_S1x256x256_1_0_512 x 2)
    · exact exp_ck q K 256 _ x _ ((ValueKit.rect_emb_unit_val (s := S2x256x2048) ![1, 0, 256] ![1, 256, 256] inb_S2x256x2048_S1x256x256_1_0_256 x 1).trans (Nat.zero_add _)) (ValueKit.rect_emb_unit_val (s := S2x256x2048) ![1, 0, 256] ![1, 256, 256] inb_S2x256x2048_S1x256x256_1_0_256 x 2)
    · exact exp_ck q K 0 _ x _ ((ValueKit.rect_emb_unit_val (s := S2x256x2048) ![1, 0, 0] ![1, 256, 256] inb_S2x256x2048_S1x256x256_1_0_0 x 1).trans (Nat.zero_add _)) (ValueKit.rect_emb_unit_val (s := S2x256x2048) ![1, 0, 0] ![1, 256, 256] inb_S2x256x2048_S1x256x256_1_0_0 x 2)
  · have e2 := congrArg Fin.val c2
    obtain ⟨d, hs, hm, hm'⟩ : ∃ d, d < 8 ∧ 256 * d ≤ s.val ∧ s.val < 256 * d + 256 := by
      have := s.isLt
      exact ⟨s.val / 256, by omega, by omega, by omega⟩
    interval_cases d
    · exact ⟨_, (List.Mem.tail _ (List.Mem.tail _ (List.Mem.tail _ (List.Mem.tail _ (List.Mem.tail _ (List.Mem.tail _ (List.Mem.tail _ (List.Mem.head _)))))))), mem_lane 1 0 inb_S2x256x2048_S1x256x256_1_0_0 _ c0 (e2 ▸ hm) (e2 ▸ hm')⟩
    · exact ⟨_, (List.Mem.tail _ (List.Mem.tail _ (List.Mem.tail _ (List.Mem.tail _ (List.Mem.tail _ (List.Mem.tail _ (List.Mem.head _))))))), mem_lane 1 256 inb_S2x256x2048_S1x256x256_1_0_256 _ c0 (e2 ▸ hm) (e2 ▸ hm')⟩
    · exact ⟨_, (List.Mem.tail _ (List.Mem.tail _ (List.Mem.tail _ (List.Mem.tail _ (List.Mem.tail _ (List.Mem.head _)))))), mem_lane 1 512 inb_S2x256x2048_S1x256x256_1_0_512 _ c0 (e2 ▸ hm) (e2 ▸ hm')⟩
    · exact ⟨_, (List.Mem.tail _ (List.Mem.tail _ (List.Mem.tail _ (List.Mem.tail _ (List.Mem.head _))))), mem_lane 1 768 inb_S2x256x2048_S1x256x256_1_0_768 _ c0 (e2 ▸ hm) (e2 ▸ hm')⟩
    · exact ⟨_, (List.Mem.tail _ (List.Mem.tail _ (List.Mem.tail _ (List.Mem.head _)))), mem_lane 1 1024 inb_S2x256x2048_S1x256x256_1_0_1024 _ c0 (e2 ▸ hm) (e2 ▸ hm')⟩
    · exact ⟨_, (List.Mem.tail _ (List.Mem.tail _ (List.Mem.head _))), mem_lane 1 1280 inb_S2x256x2048_S1x256x256_1_0_1280 _ c0 (e2 ▸ hm) (e2 ▸ hm')⟩
    · exact ⟨_, (List.Mem.tail _ (List.Mem.head _)), mem_lane 1 1536 inb_S2x256x2048_S1x256x256_1_0_1536 _ c0 (e2 ▸ hm) (e2 ▸ hm')⟩
    · exact ⟨_, (List.Mem.head _), mem_lane 1 1792 inb_S2x256x2048_S1x256x256_1_0_1792 _ c0 (e2 ▸ hm) (e2 ▸ hm')⟩
  · rw [c1, c2]

/-- The result of one row and one lane. -/
theorem outU_at (q : Vec Ideal S1x256x128 .bf16) (Kl Kh Vl Vh : Vec Ideal S2048x128 .bf16) (L L') (r : Fin 256) (l : Fin 128) :
    outU q Kl Kh Vl Vh L L' (ix3 0 r l) =
      if l.val < 64 then (∑ s : Fin 2048, wt q Kl r s * (Vl (ix2 s l) : EReal)) * Ideal.div 1 (∑ s : Fin 2048, wt q Kl r s * (Vl (ix2 s 64) : EReal))
      else (∑ s : Fin 2048, wt q Kh r s * (Vh (ix2 s l) : EReal)) * Ideal.div 1 (∑ s : Fin 2048, wt q Kh r s * (Vh (ix2 s 0) : EReal)) := by
  unfold outU
  rw [joinU_at]
  simp only [prodU_at, wtE_at, wtO_at]

/-- Row `r`'s score against key `s`, the query lanes taken from tile `p` of the query block. -/
def scB (Q : Vec Ideal S1x1024x256 .bf16) (K : Vec Ideal S2048x128 .bf16) (r : Fin 1024) (p : Fin 2) (s : Fin 2048) : EReal :=
  ∑ l : Fin 128, (Q (ix3 0 r ⟨128 * p.val + l.val, by omega⟩) : EReal) * (K (ix2 s l) : EReal)

/-- The weight of key `s` in row `r`. -/
def wtB (Q : Vec Ideal S1x1024x256 .bf16) (K : Vec Ideal S2048x128 .bf16) (r : Fin 1024) (p : Fin 2) (s : Fin 2048) : EReal :=
  Ideal.exp (scB Q K r p s - Finset.univ.fold max ⊥ (scB Q K r p))

/-- The value of the output block at row `r`, tile `p`, lane `l`. -/
def outB (Q : Vec Ideal S1x1024x256 .bf16) (Kl Kh Vl Vh : Vec Ideal S2048x128 .bf16) (r : Fin 1024) (p : Fin 2) (l : Fin 128) : EReal :=
  if l.val < 64 then (∑ s : Fin 2048, wtB Q Kl r p s * (Vl (ix2 s l) : EReal)) * Ideal.div 1 (∑ s : Fin 2048, wtB Q Kl r p s * (Vl (ix2 s 64) : EReal))
      else (∑ s : Fin 2048, wtB Q Kh r p s * (Vh (ix2 s l) : EReal)) * Ideal.div 1 (∑ s : Fin 2048, wtB Q Kh r p s * (Vh (ix2 s 0) : EReal))

theorem sc_ld (Q : Vec Ideal S1x1024x256 .bf16) (K : Vec Ideal S2048x128 .bf16) (ro : ℕ) (p : Fin 2) (o : ℕ) (ho : o = 128 * p.val) (inb) (x1 : Fin 256) (r : Fin 1024) (h1 : r.val = ro + x1.val) :
    sc (View.ld Q (Rect.unit (s := S1x1024x256) ![0, ro, o] ![1, 256, 128] inb)) K x1 = scB Q K r p := by
  funext s
  unfold sc scB
  refine Finset.sum_congr rfl fun l _ => ?_
  congr 1
  refine congrArg Q (funext fun a => Fin.ext ?_)
  subst ho
  fin_cases a
  · rfl
  · exact (show ro + 1 * x1.val = r.val by omega)
  · exact (show 128 * p.val + 1 * l.val = 128 * p.val + l.val by omega)

/-- One stored piece of the output block is the block's value at its place. -/
theorem outU_ld (Q : Vec Ideal S1x1024x256 .bf16) (Kl Kh Vl Vh : Vec Ideal S2048x128 .bf16) (L L') (ro o : ℕ) (inb) (x : S1x256x128.Idx)
    (r : Fin 1024) (p : Fin 2) (l : Fin 128) (ho : o = 128 * p.val) (h1 : r.val = ro + (x 1).val) (h2 : l.val = (x 2).val) :
    outU (View.ld Q (Rect.unit (s := S1x1024x256) ![0, ro, o] ![1, 256, 128] inb)) Kl Kh Vl Vh L L' x = outB Q Kl Kh Vl Vh r p l := by
  idx_vars x
  obtain rfl : x0 = 0 := Subsingleton.elim _ _
  obtain rfl : l = x2 := Fin.ext h2
  rw [outU_at]
  simp only [wt, sc_ld Q _ ro p o ho inb x1 r h1]
  rfl

end Cert.KernelIdeal.Attn
end
-- ==== Proof.AttnPoint.lean ====
module

public import proofs.«01_k».proof.Proof.AttnValue

@[expose] public section
set_option maxRecDepth 16384
noncomputable section
namespace Cert.KernelIdeal.Attn
open Cert.KernelIdeal Cert.KernelIdeal.Gen Idealize.ShloMosaic Idealize.ShloMosaic.TcCoe Idealize.SL.Sem

set_option maxHeartbeats 16000000 in
/-- An even point's output block. -/
theorem out_even (m : (ℓ : Loc nD τ sig) → Buf (Elt Ideal) ℓ) (c : Dev nD) (t : Fin cfg0.N) (h : t.val % 2 = 0) (y : S1x1024x256.Idx)
    (p : Fin 2) (l : Fin 128) (hy : (y 2).val = 128 * p.val + l.val) :
    (outsAt0 m c t.val t.isLt).1 y = outB (iblk m c 0 t) (k0_pay6 (iblk m c 1 t)) (k0_pay7 (iblk m c 1 t)) (k0_pay8 (iblk m c 2 t)) (k0_pay9 (iblk m c 2 t)) (y 1) p l := by
  rw [outsAt0_A m c t h]
  frame_open
  simp (disch := decide) only [↓ View.readCov_skip, ↓ View.readCov_cons_toLoadRect, ↓ View.readCov_fill]
  frame_out
  canon_tiles x h
  case piece7 => exact outU_ld (iblk m c 0 t) _ _ _ _ _ _ 0 0 inb_S1x1024x256_S1x256x128_0_0_0 x (y 1) p l (by omega) (by omega) (by omega)
  case piece6 => exact outU_ld (iblk m c 0 t) _ _ _ _ _ _ 0 128 inb_S1x1024x256_S1x256x128_0_0_128 x (y 1) p l (by omega) (by omega) (by omega)
  case piece5 => exact outU_ld (iblk m c 0 t) _ _ _ _ _ _ 256 0 inb_S1x1024x256_S1x256x128_0_256_0 x (y 1) p l (by omega) (by omega) (by omega)
  case piece4 => exact outU_ld (iblk m c 0 t) _ _ _ _ _ _ 256 128 inb_S1x1024x256_S1x256x128_0_256_128 x (y 1) p l (by omega) (by omega) (by omega)
  case piece3 => exact outU_ld (iblk m c 0 t) _ _ _ _ _ _ 512 0 inb_S1x1024x256_S1x256x128_0_512_0 x (y 1) p l (by omega) (by omega) (by omega)
  case piece2 => exact outU_ld (iblk m c 0 t) _ _ _ _ _ _ 512 128 inb_S1x1024x256_S1x256x128_0_512_128 x (y 1) p l (by omega) (by omega) (by omega)
  case piece1 => exact outU_ld (iblk m c 0 t) _ _ _ _ _ _ 768 0 inb_S1x1024x256_S1x256x128_0_768_0 x (y 1) p l (by omega) (by omega) (by omega)
  case piece0 => exact outU_ld (iblk m c 0 t) _ _ _ _ _ _ 768 128 inb_S1x1024x256_S1x256x128_0_768_128 x (y 1) p l (by omega) (by omega) (by omega)

/-- The low keys an even point leaves in the scratch. -/
theorem klo_even (m : (ℓ : Loc nD τ sig) → Buf (Elt Ideal) ℓ) (c : Dev nD) (t : Fin cfg0.N) (h : t.val % 2 = 0) :
    (outsAt0 m c t.val t.isLt).2.1 = k0_pay6 (iblk m c 1 t) := by
  rw [outsAt0_A m c t h]
  funext y
  frame_open
  simp (disch := decide) only [↓ View.readCov_skip, ↓ View.readCov_cons_toLoadRect, ↓ View.readCov_fill]
  frame_out

/-- The high keys an even point leaves in the scratch. -/
theorem khi_even (m : (ℓ : Loc nD τ sig) → Buf (Elt Ideal) ℓ) (c : Dev nD) (t : Fin cfg0.N) (h : t.val % 2 = 0) :
    (outsAt0 m c t.val t.isLt).2.2.1 = k0_pay7 (iblk m c 1 t) := by
  rw [outsAt0_A m c t h]
  funext y
  frame_open
  simp (disch := decide) only [↓ View.readCov_skip, ↓ View.readCov_cons_toLoadRect, ↓ View.readCov_fill]
  frame_out

/-- The low values an even point leaves in the scratch. -/
theorem vlo_even (m : (ℓ : Loc nD τ sig) → Buf (Elt Ideal) ℓ) (c : Dev nD) (t : Fin cfg0.N) (h : t.val % 2 = 0) :
    (outsAt0 m c t.val t.isLt).2.2.2.1 = k0_pay8 (iblk m c 2 t) := by
  rw [outsAt0_A m c t h]
  funext y
  frame_open
  simp (disch := decide) only [↓ View.readCov_skip, ↓ View.readCov_cons_toLoadRect, ↓ View.readCov_fill]
  frame_out

/-- The high values an even point leaves in the scratch. -/
theorem vhi_even (m : (ℓ : Loc nD τ sig) → Buf (Elt Ideal) ℓ) (c : Dev nD) (t : Fin cfg0.N) (h : t.val % 2 = 0) :
    (outsAt0 m c t.val t.isLt).2.2.2.2 = k0_pay9 (iblk m c 2 t) := by
  rw [outsAt0_A m c t h]
  funext y
  frame_open
  simp (disch := decide) only [↓ View.readCov_skip, ↓ View.readCov_cons_toLoadRect, ↓ View.readCov_fill]
  frame_out

set_option maxHeartbeats 16000000 in
/-- An odd point's output block, over the scratch the point before left. -/
theorem out_odd (m : (ℓ : Loc nD τ sig) → Buf (Elt Ideal) ℓ) (c : Dev nD) (t : Fin cfg0.N) (h : ¬ t.val % 2 = 0) (y : S1x1024x256.Idx)
    (p : Fin 2) (l : Fin 128) (hy : (y 2).val = 128 * p.val + l.val) :
    (outsAt0 m c t.val t.isLt).1 y = outB (iblk m c 0 t) (outsAt0 m c (t.val - 1) (by omega)).2.1 (outsAt0 m c (t.val - 1) (by omega)).2.2.1
      (outsAt0 m c (t.val - 1) (by omega)).2.2.2.1 (outsAt0 m c (t.val - 1) (by omega)).2.2.2.2 (y 1) p l := by
  rw [outsAt0_B m c t h]
  frame_open
  simp (disch := decide) only [↓ View.readCov_skip, ↓ View.readCov_cons_toLoadRect, ↓ View.readCov_fill]
  frame_out
  simp only [read_unread_whole]
  generalize outsAt0 m c (t.val - 1) _ = pr
  canon_tiles x h
  case piece7 => exact outU_ld (iblk m c 0 t) _ _ _ _ _ _ 0 0 inb_S1x1024x256_S1x256x128_0_0_0 x (y 1) p l (by omega) (by omega) (by omega)
  case piece6 => exact outU_ld (iblk m c 0 t) _ _ _ _ _ _ 0 128 inb_S1x1024x256_S1x256x128_0_0_128 x (y 1) p l (by omega) (by omega) (by omega)
  case piece5 => exact outU_ld (iblk m c 0 t) _ _ _ _ _ _ 256 0 inb_S1x1024x256_S1x256x128_0_256_0 x (y 1) p l (by omega) (by omega) (by omega)
  case piece4 => exact outU_ld (iblk m c 0 t) _ _ _ _ _ _ 256 128 inb_S1x1024x256_S1x256x128_0_256_128 x (y 1) p l (by omega) (by omega) (by omega)
  case piece3 => exact outU_ld (iblk m c 0 t) _ _ _ _ _ _ 512 0 inb_S1x1024x256_S1x256x128_0_512_0 x (y 1) p l (by omega) (by omega) (by omega)
  case piece2 => exact outU_ld (iblk m c 0 t) _ _ _ _ _ _ 512 128 inb_S1x1024x256_S1x256x128_0_512_128 x (y 1) p l (by omega) (by omega) (by omega)
  case piece1 => exact outU_ld (iblk m c 0 t) _ _ _ _ _ _ 768 0 inb_S1x1024x256_S1x256x128_0_768_0 x (y 1) p l (by omega) (by omega) (by omega)
  case piece0 => exact outU_ld (iblk m c 0 t) _ _ _ _ _ _ 768 128 inb_S1x1024x256_S1x256x128_0_768_128 x (y 1) p l (by omega) (by omega) (by omega)

end Cert.KernelIdeal.Attn
end
-- ==== Proof.AttnBlocks.lean ====
module

public import proofs.«01_k».proof.Proof.AttnPoint

@[expose] public section
set_option maxRecDepth 16384
noncomputable section
namespace Cert.KernelIdeal.Attn
open Cert.KernelIdeal Cert.KernelIdeal.Gen Idealize.ShloMosaic Idealize.ShloMosaic.TcCoe Idealize.SL.Sem

theorem idx0 : ∀ t : Fin cfg0.N, win0_0.index t = ![t.val / 4, t.val % 2, t.val / 2 % 2] :=
  (by decide +kernel : ∀ t : Fin grid0.N, win0_0.index t = ![t.val / 4, t.val % 2, t.val / 2 % 2])
theorem idx1 : ∀ t : Fin cfg0.N, win0_1.index t = ![t.val / 4, 0, t.val / 2 % 2] :=
  (by decide +kernel : ∀ t : Fin grid0.N, win0_1.index t = ![t.val / 4, 0, t.val / 2 % 2])
theorem idx2 : ∀ t : Fin cfg0.N, win0_2.index t = ![t.val / 4, 0, t.val / 2 % 2] :=
  (by decide +kernel : ∀ t : Fin grid0.N, win0_2.index t = ![t.val / 4, 0, t.val / 2 % 2])
theorem idx3 : ∀ t : Fin cfg0.N, win0_3.index t = ![t.val / 4, t.val % 2, t.val / 2 % 2] :=
  (by decide +kernel : ∀ t : Fin grid0.N, win0_3.index t = ![t.val / 4, t.val % 2, t.val / 2 % 2])

theorem lt32 (t : Fin cfg0.N) : t.val < 32 := lt_of_lt_of_eq t.isLt N_0

/-- The queries as launched. -/
def argQ (m : (ℓ : Loc nD τ sig) → Buf (Elt Ideal) ℓ) (c : Dev nD) : S8x2048x8x64.Idx → EReal := m ((c : Thread nD τ).loc main_arg0)
/-- The keys as launched. -/
def argK (m : (ℓ : Loc nD τ sig) → Buf (Elt Ideal) ℓ) (c : Dev nD) : S8x2048x2x64.Idx → EReal := m ((c : Thread nD τ).loc main_arg1)
/-- The values as launched. -/
def argV (m : (ℓ : Loc nD τ sig) → Buf (Elt Ideal) ℓ) (c : Dev nD) : S8x2048x2x64.Idx → EReal := m ((c : Thread nD τ).loc main_arg2)

/-- The queries the host prepares: scaled, cast and flattened. -/
def prepQ (q : S8x2048x8x64.Idx → EReal) : FVec Ideal S8x2048x512 .bf16 :=
  shapeCast S8x2048x512 (shapeCast S16384x512 (truncf .bf16 (mulf (q : FVec Ideal S8x2048x8x64 .f32) (broadcastInDim S8x2048x8x64 ![] bcast_S_S8x2048x8x64 (constant S_ .f32 0x3E000000#32) : FVec Ideal S8x2048x8x64 .f32)) bitsLt_bf16_f32 : FVec Ideal S8x2048x8x64 .bf16) shapeCasts_S8x2048x8x64_S16384x512) shapeCasts_S16384x512_S8x2048x512

/-- The keys or values the host prepares: each head written twice side by side, cast and flattened. -/
def prepK (k : S8x2048x2x64.Idx → EReal) : FVec Ideal S8x2048x256 .bf16 :=
  shapeCast S8x2048x256 (shapeCast S16384x256 (truncf .bf16 (concatenate S8x2048x2x128 3 [⟨S8x2048x2x64, (k : FVec Ideal S8x2048x2x64 .f32)⟩, ⟨S8x2048x2x64, (k : FVec Ideal S8x2048x2x64 .f32)⟩] concatenates_S8x2048x2x64_S8x2048x2x64_S8x2048x2x128_d3 : FVec Ideal S8x2048x2x128 .f32) bitsLt_bf16_f32) shapeCasts_S8x2048x2x128_S16384x256) shapeCasts_S16384x256_S8x2048x256

theorem V10_eq (m : (ℓ : Loc nD τ sig) → Buf (Elt Ideal) ℓ) (c : Dev nD) : V m c main_v10 = prepQ (argQ m c) := by
  entry_read
  rfl

theorem V11_eq (m : (ℓ : Loc nD τ sig) → Buf (Elt Ideal) ℓ) (c : Dev nD) : V m c main_v11 = prepK (argK m c) := by
  entry_read
  rfl

theorem V12_eq (m : (ℓ : Loc nD τ sig) → Buf (Elt Ideal) ℓ) (c : Dev nD) : V m c main_v12 = prepK (argV m c) := by
  entry_read
  rfl

theorem prepQ_at' (q : S8x2048x8x64.Idx → EReal) (b : Fin 8) (R : Fin 2048) (w : Fin 512) :
    prepQ q (ix3 b R w) = q (ix4 b R ⟨w.val / 64, by have := w.isLt; omega⟩ ⟨w.val % 64, by omega⟩) * Ideal.ofBits .f32 0x3E000000#32 := by
  pointwise [prepQ]

theorem prepK_at' (k : S8x2048x2x64.Idx → EReal) (b : Fin 8) (R : Fin 2048) (w : Fin 256) :
    prepK k (ix3 b R w) = if h : w.val % 128 < 64 then k (ix4 b R ⟨w.val / 128, by have := w.isLt; omega⟩ ⟨w.val % 128, h⟩)
      else k (ix4 b R ⟨w.val / 128, by have := w.isLt; omega⟩ ⟨w.val % 128 - 64, by omega⟩) := by
  pointwise [prepK]

theorem prepQ_at (q : S8x2048x8x64.Idx → EReal) (b : Fin 8) (R : Fin 2048) (w : Fin 512) (h : Fin 8) (d : Fin 64)
    (hh : h.val = w.val / 64) (hd : d.val = w.val % 64) : prepQ q (ix3 b R w) = q (ix4 b R h d) * Ideal.ofBits .f32 0x3E000000#32 := by
  rw [prepQ_at', show (⟨w.val / 64, by have := w.isLt; omega⟩ : Fin 8) = h from Fin.ext hh.symm, show (⟨w.val % 64, by omega⟩ : Fin 64) = d from Fin.ext hd.symm]

theorem prepK_at (k : S8x2048x2x64.Idx → EReal) (b : Fin 8) (R : Fin 2048) (w : Fin 256) (h : Fin 2) (d : Fin 64)
    (hh : h.val = w.val / 128) (hd : d.val = w.val % 64) : prepK k (ix3 b R w) = k (ix4 b R h d) := by
  rw [prepK_at']
  have hi : ∀ x : Fin 2, x.val = w.val / 128 → x = h := fun x hx => Fin.ext (hx.trans hh.symm)
  by_cases hc : w.val % 128 < 64
  · rw [dif_pos hc]
    exact congrArg₂ (fun h d => k (ix4 b R h d)) (hi _ rfl) (Fin.ext (show w.val % 128 = d.val by omega))
  · rw [dif_neg hc]
    exact congrArg₂ (fun h d => k (ix4 b R h d)) (hi _ rfl) (Fin.ext (show w.val % 128 - 64 = d.val by omega))

/-- Window 0's block of an array, at coordinates. -/
theorem read0 (X : S8x2048x512.Idx → EReal) (t : Fin cfg0.N) (s : Fin 1024) (l : Fin 256) (b : Fin 8) (R : Fin 2048) (w : Fin 512)
    (hb : b.val = t.val / 4) (hR : R.val = 1024 * (t.val % 2) + s.val) (hw : w.val = 256 * (t.val / 2 % 2) + l.val) :
    (win0_0.blk t).view.read (Elt Ideal) X (ix3 0 s l) = X (ix3 b R w) := by
  have := lt32 t
  refine congrArg X (funext fun a => Fin.ext ?_)
  fin_cases a
  all_goals (blk_simp [idx0 t]; try omega)
  all_goals simp
  all_goals omega

theorem iblk0_eq (m : (ℓ : Loc nD τ sig) → Buf (Elt Ideal) ℓ) (c : Dev nD) (t : Fin cfg0.N) (s : Fin 1024) (l : Fin 256) (b : Fin 8) (R : Fin 2048) (w : Fin 512)
    (hb : b.val = t.val / 4) (hR : R.val = 1024 * (t.val % 2) + s.val) (hw : w.val = 256 * (t.val / 2 % 2) + l.val) :
    iblk m c 0 t (ix3 0 s l) = V m c main_v10 (ix3 b R w) :=
  read0 (V m c main_v10) t s l b R w hb hR hw

/-- Window 1's block of an array, at coordinates. -/
theorem read1 (X : S8x2048x256.Idx → EReal) (t : Fin cfg0.N) (s : Fin 2048) (l : Fin 128) (b : Fin 8) (w : Fin 256)
    (hb : b.val = t.val / 4) (hw : w.val = 128 * (t.val / 2 % 2) + l.val) :
    (win0_1.blk t).view.read (Elt Ideal) X (ix3 0 s l) = X (ix3 b s w) := by
  have := lt32 t
  refine congrArg X (funext fun a => Fin.ext ?_)
  fin_cases a
  all_goals (blk_simp [idx1 t]; try omega)
  all_goals simp
  all_goals omega

theorem iblk1_eq (m : (ℓ : Loc nD τ sig) → Buf (Elt Ideal) ℓ) (c : Dev nD) (t : Fin cfg0.N) (s : Fin 2048) (l : Fin 128) (b : Fin 8) (w : Fin 256)
    (hb : b.val = t.val / 4) (hw : w.val = 128 * (t.val / 2 % 2) + l.val) :
    iblk m c 1 t (ix3 0 s l) = V m c main_v11 (ix3 b s w) :=
  read1 (V m c main_v11) t s l b w hb hw

/-- Window 2's block of an array, at coordinates. -/
theorem read2 (X : S8x2048x256.Idx → EReal) (t : Fin cfg0.N) (s : Fin 2048) (l : Fin 128) (b : Fin 8) (w : Fin 256)
    (hb : b.val = t.val / 4) (hw : w.val = 128 * (t.val / 2 % 2) + l.val) :
    (win0_2.blk t).view.read (Elt Ideal) X (ix3 0 s l) = X (ix3 b s w) := by
  have := lt32 t
  refine congrArg X (funext fun a => Fin.ext ?_)
  fin_cases a
  all_goals (blk_simp [idx2 t]; try omega)
  all_goals simp
  all_goals omega

theorem iblk2_eq (m : (ℓ : Loc nD τ sig) → Buf (Elt Ideal) ℓ) (c : Dev nD) (t : Fin cfg0.N) (s : Fin 2048) (l : Fin 128) (b : Fin 8) (w : Fin 256)
    (hb : b.val = t.val / 4) (hw : w.val = 128 * (t.val / 2 % 2) + l.val) :
    iblk m c 2 t (ix3 0 s l) = V m c main_v12 (ix3 b s w) :=
  read2 (V m c main_v12) t s l b w hb hw

/-- The query block, read through the host's preparation. -/
theorem q_at (m : (ℓ : Loc nD τ sig) → Buf (Elt Ideal) ℓ) (c : Dev nD) (t : Fin cfg0.N) (r : Fin 1024) (l : Fin 256) (b : Fin 8) (R : Fin 2048) (h : Fin 8) (d : Fin 64)
    (hb : b.val = t.val / 4) (hR : R.val = 1024 * (t.val % 2) + r.val) (hh : h.val = 4 * (t.val / 2 % 2) + l.val / 64) (hd : d.val = l.val % 64) :
    iblk m c 0 t (ix3 0 r l) = argQ m c (ix4 b R h d) * Ideal.ofBits .f32 0x3E000000#32 := by
  have := lt32 t
  rw [iblk0_eq m c t r l b R ⟨256 * (t.val / 2 % 2) + l.val, by omega⟩ hb hR rfl, V10_eq]
  exact prepQ_at _ b R _ h d (by dsimp only; omega) (by dsimp only; omega)

/-- The key block, read through the host's preparation. -/
theorem k_at (m : (ℓ : Loc nD τ sig) → Buf (Elt Ideal) ℓ) (c : Dev nD) (t : Fin cfg0.N) (s : Fin 2048) (l : Fin 128) (b : Fin 8) (h : Fin 2) (d : Fin 64)
    (hb : b.val = t.val / 4) (hh : h.val = t.val / 2 % 2) (hd : d.val = l.val % 64) :
    iblk m c 1 t (ix3 0 s l) = argK m c (ix4 b s h d) := by
  have := lt32 t
  rw [iblk1_eq m c t s l b ⟨128 * (t.val / 2 % 2) + l.val, by omega⟩ hb rfl, V11_eq]
  exact prepK_at _ b s _ h d (by dsimp only; omega) (by dsimp only; omega)

/-- The value block, read through the host's preparation. -/
theorem v_at (m : (ℓ : Loc nD τ sig) → Buf (Elt Ideal) ℓ) (c : Dev nD) (t : Fin cfg0.N) (s : Fin 2048) (l : Fin 128) (b : Fin 8) (h : Fin 2) (d : Fin 64)
    (hb : b.val = t.val / 4) (hh : h.val = t.val / 2 % 2) (hd : d.val = l.val % 64) :
    iblk m c 2 t (ix3 0 s l) = argV m c (ix4 b s h d) := by
  have := lt32 t
  rw [iblk2_eq m c t s l b ⟨128 * (t.val / 2 % 2) + l.val, by omega⟩ hb rfl, V12_eq]
  exact prepK_at _ b s _ h d (by dsimp only; omega) (by dsimp only; omega)

theorem eq64 : ∀ l : Fin 128, BitVec.setWidth 32 (IntOp.cmpi CmpIPredicate.eq (BitVec.ofNat 32 ↑l) 64#32) = if l.val = 64 then 1#32 else 0#32 := by
  decide +kernel

theorem eq0 : ∀ l : Fin 128, BitVec.setWidth 32 (IntOp.cmpi CmpIPredicate.eq (BitVec.ofNat 32 ↑l) 0#32) = if l.val = 0 then 1#32 else 0#32 := by
  decide +kernel

theorem si1 : (FloatOps.sitofp FTy.f32 (1#32) : Ideal .f32) = (1 : EReal) := by
  show ((((1#32 : BitVec 32).toInt : ℤ) : ℝ) : EReal) = 1
  simp

theorem si0 : (FloatOps.sitofp FTy.f32 (0#32) : Ideal .f32) = (0 : EReal) := by
  show ((((0#32 : BitVec 32).toInt : ℤ) : ℝ) : EReal) = 0
  simp

theorem pay6_at (X : Vec Ideal S1x2048x128 .bf16) (s : Fin 2048) (l : Fin 128) : k0_pay6 X (ix2 s l) = if l.val < 64 then (X (ix3 0 s l) : EReal) else 0 := by
  pointwise [k0_pay6, k0_pay2, k0_pay3, k0_pay5]
  rw [slt64 l]
  split_ifs <;> first | exact si1 | exact si0 | rfl
theorem pay7_at (X : Vec Ideal S1x2048x128 .bf16) (s : Fin 2048) (l : Fin 128) : k0_pay7 X (ix2 s l) = if l.val < 64 then 0 else (X (ix3 0 s l) : EReal) := by
  pointwise [k0_pay7, k0_pay2, k0_pay3, k0_pay5]
  rw [slt64 l]
  split_ifs <;> first | exact si1 | exact si0 | rfl
theorem pay8_at (X : Vec Ideal S1x2048x128 .bf16) (s : Fin 2048) (l : Fin 128) : k0_pay8 X (ix2 s l) = if l.val < 64 then (X (ix3 0 s l) : EReal) else if l.val = 64 then 1 else 0 := by
  pointwise [k0_pay8, k0_pay2, k0_pay4]
  rw [slt64 l, eq64 l]
  split_ifs <;> first | exact si1 | exact si0 | rfl
theorem pay9_at (X : Vec Ideal S1x2048x128 .bf16) (s : Fin 2048) (l : Fin 128) : k0_pay9 X (ix2 s l) = if l.val < 64 then if l.val = 0 then 1 else 0 else (X (ix3 0 s l) : EReal) := by
  pointwise [k0_pay9, k0_pay2, k0_pay4]
  rw [slt64 l, eq0 l]
  split_ifs <;> first | exact si1 | exact si0 | rfl

end Cert.KernelIdeal.Attn
end
-- ==== Proof.AttnFinal.lean ====
module

public import proofs.«01_k».proof.Proof.AttnBlocks

@[expose] public section
set_option maxRecDepth 16384
noncomputable section
namespace Cert.KernelIdeal.Attn
open Cert.KernelIdeal Cert.KernelIdeal.Gen Idealize.ShloMosaic Idealize.ShloMosaic.TcCoe Idealize.SL.Sem

/-- The score of one query head against one key, the query scaled first. -/
def sF (q : S8x2048x8x64.Idx → EReal) (k : S8x2048x2x64.Idx → EReal) (b : Fin 8) (R : Fin 2048) (h : Fin 8) (g : Fin 2) (s : Fin 2048) : EReal :=
  ∑ d : Fin 64, q (ix4 b R h d) * Ideal.ofBits .f32 0x3E000000#32 * k (ix4 b s g d)

/-- The unnormalised weight of one key. -/
def wF (q : S8x2048x8x64.Idx → EReal) (k : S8x2048x2x64.Idx → EReal) (b : Fin 8) (R : Fin 2048) (h : Fin 8) (g : Fin 2) (s : Fin 2048) : EReal :=
  Ideal.exp (sF q k b R h g s - Finset.univ.fold max ⊥ (sF q k b R h g))

/-- What the kernel leaves for one query head and one lane: the weighted values times the reciprocal of the weights' sum. -/
def kF (q : S8x2048x8x64.Idx → EReal) (k v : S8x2048x2x64.Idx → EReal) (b : Fin 8) (R : Fin 2048) (h : Fin 8) (g : Fin 2) (d : Fin 64) : EReal :=
  (∑ s : Fin 2048, wF q k b R h g s * v (ix4 b s g d)) * Ideal.div 1 (∑ s : Fin 2048, wF q k b R h g s)

theorem sum_lanes (f : Fin 128 → EReal) :
    ∑ l : Fin 128, f l = (∑ d : Fin 64, f ⟨d.val, by omega⟩) + ∑ d : Fin 64, f ⟨64 + d.val, by omega⟩ :=
  Fin.sum_univ_add (a := 64) (b := 64) f

section
variable (m : (ℓ : Loc nD τ sig) → Buf (Elt Ideal) ℓ) (c : Dev nD) (t t' : Fin cfg0.N) (r : Fin 1024) (p : Fin 2) (b : Fin 8) (R : Fin 2048) (g : Fin 2)

theorem scB_lo (ht : t'.val / 2 = t.val / 2) (hb : b.val = t.val / 4) (hR : R.val = 1024 * (t.val % 2) + r.val) (hg : g.val = t.val / 2 % 2)
    (h : Fin 8) (hh : h.val = 4 * (t.val / 2 % 2) + 2 * p.val) :
    scB (iblk m c 0 t) (k0_pay6 (iblk m c 1 t')) r p = sF (argQ m c) (argK m c) b R h g := by
  funext s
  unfold scB sF
  rw [sum_lanes]
  refine (congrArg₂ (· + ·) (Finset.sum_congr rfl fun d _ => ?_) (Finset.sum_eq_zero fun d _ => ?_)).trans (add_zero _)
  · rw [q_at m c t r _ b R h d hb hR (by dsimp only; omega) (by dsimp only; omega), pay6_at, if_pos d.isLt,
      k_at m c t' s _ b g d (by omega) (by omega) (by dsimp only; omega)]
  · rw [pay6_at, if_neg (by dsimp only; omega), mul_zero]

theorem scB_hi (ht : t'.val / 2 = t.val / 2) (hb : b.val = t.val / 4) (hR : R.val = 1024 * (t.val % 2) + r.val) (hg : g.val = t.val / 2 % 2)
    (h : Fin 8) (hh : h.val = 4 * (t.val / 2 % 2) + 2 * p.val + 1) :
    scB (iblk m c 0 t) (k0_pay7 (iblk m c 1 t')) r p = sF (argQ m c) (argK m c) b R h g := by
  funext s
  unfold scB sF
  rw [sum_lanes]
  refine (congrArg₂ (· + ·) (Finset.sum_eq_zero fun d _ => ?_) (Finset.sum_congr rfl fun d _ => ?_)).trans (zero_add _)
  · rw [pay7_at, if_pos d.isLt, mul_zero]
  · rw [q_at m c t r _ b R h d hb hR (by dsimp only; omega) (by dsimp only; omega), pay7_at, if_neg (by dsimp only; omega),
      k_at m c t' s _ b g d (by omega) (by omega) (by dsimp only; omega)]

/-- The block's value over the scratch any point of the same key block filled. -/
theorem outB_val (ht : t'.val / 2 = t.val / 2) (hb : b.val = t.val / 4) (hR : R.val = 1024 * (t.val % 2) + r.val) (hg : g.val = t.val / 2 % 2)
    (l : Fin 128) (h : Fin 8) (d : Fin 64) (hh : h.val = 4 * (t.val / 2 % 2) + 2 * p.val + l.val / 64) (hd : d.val = l.val % 64) :
    outB (iblk m c 0 t) (k0_pay6 (iblk m c 1 t')) (k0_pay7 (iblk m c 1 t')) (k0_pay8 (iblk m c 2 t')) (k0_pay9 (iblk m c 2 t')) r p l
      = kF (argQ m c) (argK m c) (argV m c) b R h g d := by
  unfold outB wtB kF wF
  by_cases hl : l.val < 64
  · rw [if_pos hl, scB_lo m c t t' r p b R g ht hb hR hg h (by omega)]
    congr 1
    · refine Finset.sum_congr rfl fun s _ => ?_
      rw [pay8_at, if_pos hl, v_at m c t' s l b g d (by omega) (by omega) hd]
    · congr 1
      refine Finset.sum_congr rfl fun s _ => ?_
      rw [pay8_at, if_neg (by decide), if_pos (by decide), mul_one]
  · rw [if_neg hl, scB_hi m c t t' r p b R g ht hb hR hg h (by omega)]
    congr 1
    · refine Finset.sum_congr rfl fun s _ => ?_
      rw [pay9_at, if_neg hl, v_at m c t' s l b g d (by omega) (by omega) hd]
    · congr 1
      refine Finset.sum_congr rfl fun s _ => ?_
      rw [pay9_at, if_pos (by decide), if_pos (by decide), mul_one]

/-- Every point's output block. -/
theorem point (y : S1x1024x256.Idx) (hb : b.val = t.val / 4) (hR : R.val = 1024 * (t.val % 2) + (y 1).val) (hg : g.val = t.val / 2 % 2)
    (h : Fin 8) (d : Fin 64) (hh : h.val = 4 * (t.val / 2 % 2) + (y 2).val / 64) (hd : d.val = (y 2).val % 64) :
    (outsAt0 m c t.val t.isLt).1 y = kF (argQ m c) (argK m c) (argV m c) b R h g d := by
  have hy : (y 2).val < 256 := (y 2).isLt
  have ht := lt32 t
  by_cases h0 : t.val % 2 = 0
  · rw [out_even m c t h0 y ⟨(y 2).val / 128, by omega⟩ ⟨(y 2).val % 128, by omega⟩ (by dsimp only; omega)]
    exact outB_val m c t t (y 1) _ b R g rfl hb hR hg _ h d (by dsimp only; omega) (by dsimp only; omega)
  · have h1 : (t.val - 1) % 2 = 0 := by omega
    have hN : t.val - 1 < cfg0.N := lt_of_le_of_lt (Nat.sub_le _ _) t.isLt
    rw [out_odd m c t h0 y ⟨(y 2).val / 128, by omega⟩ ⟨(y 2).val % 128, by omega⟩ (by dsimp only; omega),
      klo_even m c ⟨t.val - 1, hN⟩ h1, khi_even m c ⟨t.val - 1, hN⟩ h1, vlo_even m c ⟨t.val - 1, hN⟩ h1, vhi_even m c ⟨t.val - 1, hN⟩ h1]
    exact outB_val m c t ⟨t.val - 1, hN⟩ (y 1) _ b R g (by dsimp only; omega) hb hR hg _ h d (by dsimp only; omega) (by dsimp only; omega)

end

/-- The kernel's result. -/
def kOut (q : S8x2048x8x64.Idx → EReal) (k v : S8x2048x2x64.Idx → EReal) : S8x2048x512.Idx → EReal := fun i =>
  kF q k v (i 0) (i 1) ⟨(i 2).val / 64, by have : (i 2).val < 512 := (i 2).isLt; omega⟩ ⟨(i 2).val / 256, by have : (i 2).val < 512 := (i 2).isLt; omega⟩
    ⟨(i 2).val % 64, by omega⟩

theorem point_at (m : (ℓ : Loc nD τ sig) → Buf (Elt Ideal) ℓ) (c : Dev nD) (t : Fin cfg0.N) (y : S1x1024x256.Idx) (z : S8x2048x512.Idx)
    (e0 : (z 0).val = t.val / 4) (e1 : (z 1).val = 1024 * (t.val % 2) + (y 1).val) (e2 : (z 2).val = 256 * (t.val / 2 % 2) + (y 2).val) :
    (outsAt0 m c t.val t.isLt).1 y = kOut (argQ m c) (argK m c) (argV m c) z := by
  have ht := lt32 t
  have hy : (y 2).val < 256 := (y 2).isLt
  exact point m c t _ _ _ y e0 e1 (by dsimp only; omega) _ _ (by dsimp only; omega) (by dsimp only; omega)

theorem final (m : (ℓ : Loc nD τ sig) → Buf (Elt Ideal) ℓ) (c : Dev nD) :
    (dats m 0 c).arrAt 3 cfg0.N = kOut (argQ m c) (argK m c) (argV m c) := by
  refine (dats m 0 c).arrAt_eq_of_covers 3 _ (by decide +kernel) fun t hf y => ?_
  blk_simp
  rw [after0_3]
  have e0 : (((win0_3.blk t).view.emb y) 0).val = t.val / 4 := by blk_simp [idx3 t]
  have e1 : (((win0_3.blk t).view.emb y) 1).val = 1024 * (t.val % 2) + (y 1).val := by blk_simp [idx3 t]; omega
  have e2 : (((win0_3.blk t).view.emb y) 2).val = 256 * (t.val / 2 % 2) + (y 2).val := by blk_simp [idx3 t]; omega
  exact point_at m c t y _ e0 e1 e2

end Cert.KernelIdeal.Attn
end
-- ==== Proof.AttnRef.lean ====
module

public import proofs.«01_k».proof.Proof.Gen.ReferenceIdeal.Run
public import Idealize.ShloMosaic.Lib.Pipeline.ValueKit
public import Idealize.ShloMosaic.Lib.Pointwise

@[expose] public section
set_option maxRecDepth 16384
noncomputable section
namespace Cert.ReferenceIdeal.Attn
open Cert.ReferenceIdeal Cert.ReferenceIdeal.Gen Idealize.ShloMosaic Idealize.ShloMosaic.TcCoe Idealize.SL.Sem

/-- The scores. -/
def refS (q : FVec Ideal S8x2048x8x64 .f32) (k : FVec Ideal S8x2048x2x64 .f32) : FVec Ideal S8x2x4x2048x2048 .f32 :=
  mulf (transpose S8x2x4x2048x2048 [0, 1, 4, 3, 2] (Host.dotGeneral dot_S8x2048x2x64_S8x2048x2x4x64_S8x2x2048x2048x4_3_4_1_13_02_02 none k (shapeCast _ q shapeCasts_S8x2048x8x64_S8x2048x2x4x64)) transposes_S8x2x2048x2048x4_S8x2x4x2048x2048_0_1_4_3_2) (broadcastInDim S8x2x4x2048x2048 ![] bcast_S_S8x2x4x2048x2048 (constant S_ .f32 0x3E000000#32))

/-- The row maxima, before the lower bound. -/
def refR (s : FVec Ideal S8x2x4x2048x2048 .f32) : FVec Ideal S8x2x4x2048 .f32 :=
  Host.reduce FloatOps.maximumf s (constant S_ .f32 0xFF800000#32) reducesTo_S8x2x4x2048x2048_S8x2x4x2048_d4 h_S_

/-- The lower bound −∞. -/
def refL (x : FVec Ideal S8x2x4x2048 .f32) : FVec Ideal S8x2x4x2048 .f32 :=
  maximumf (broadcastInDim S8x2x4x2048 ![] bcast_S_S8x2x4x2048 (constant S_ .f32 0xFF800000#32)) x

/-- The row maxima. -/
def refM (s : FVec Ideal S8x2x4x2048x2048 .f32) : FVec Ideal S8x2x4x2048 .f32 := refL (refR s)

/-- A row statistic against every key. -/
def refB (x : FVec Ideal S8x2x4x2048 .f32) : FVec Ideal S8x2x4x2048x2048 .f32 :=
  broadcastInDim S8x2x4x2048x2048 ![0, 1, 2, 3, 4] bcast_S8x2x4x2048x1_S8x2x4x2048x2048_0_1_2_3_4 (broadcastInDim S8x2x4x2048x1 ![0, 1, 2, 3] bcast_S8x2x4x2048_S8x2x4x2048x1_0_1_2_3 x)

/-- The exponentials. -/
def refE (s : FVec Ideal S8x2x4x2048x2048 .f32) : FVec Ideal S8x2x4x2048x2048 .f32 :=
  Host.exp (subf s (refB (refM s)))

/-- The softmax. -/
def refP (e : FVec Ideal S8x2x4x2048x2048 .f32) : FVec Ideal S8x2x4x2048x2048 .f32 :=
  Host.divf e (refB (Host.reduceAdd e (constant S_ .f32 0x00000000#32) reducesTo_S8x2x4x2048x2048_S8x2x4x2048_d4 h_S_))

/-- The weighted values, heads side by side. -/
def refO (p : FVec Ideal S8x2x4x2048x2048 .f32) (v : FVec Ideal S8x2048x2x64 .f32) : FVec Ideal S8x2048x512 .bf16 :=
  truncf .bf16 (shapeCast _ (transpose S8x2048x2x4x64 [0, 4, 1, 3, 2] (Host.dotGeneral dot_S8x2048x2x64_S8x2x4x2048x2048_S8x2x64x4x2048_1_4_3_23_02_01 none v p) transposes_S8x2x64x4x2048_S8x2048x2x4x64_0_4_1_3_2) shapeCasts_S8x2048x2x4x64_S8x2048x512) bitsLt_bf16_f32

theorem refS_at (q k) (b : Fin 8) (g : Fin 2) (h : Fin 4) (R s : Fin 2048) :
    refS q k (ix5 b g h R s) = (∑ d : Fin 64, k (ix4 b s g d) * q (ix4 b R ⟨g.val * 4 + h.val, by omega⟩ d)) * Ideal.ofBits FTy.f32 1040187392#32 := by
  pointwise [refS]

/-- A maximum over the last axis, at any extents. -/
theorem redMax {n0 n1 n2 n3 n4 : ℕ} (x : FVec Ideal ⟨5, ![n0, n1, n2, n3, n4]⟩ .f32) (h : (⟨5, ![n0, n1, n2, n3, n4]⟩ : Shape).ReducesTo [4] ⟨4, ![n0, n1, n2, n3]⟩)
    (i0 : Fin n0) (i1 : Fin n1) (i2 : Fin n2) (i3 : Fin n3) :
    Host.reduce FloatOps.maximumf x (constant S_ .f32 0xFF800000#32) h h_S_ (ix4 i0 i1 i2 i3) =
      Finset.univ.fold max (Ideal.ofBits FTy.f32 4286578688#32) (fun s : Fin n4 => x (ix5 i0 i1 i2 i3 s)) := by
  pointwise

theorem negInf : Ideal.ofBits FTy.f32 4286578688#32 = ⊥ := by
  simp [Ideal.ofBits, Ideal.ieee]

theorem refL_at (x) (i : S8x2x4x2048.Idx) : refL x i = x i := by
  have h : refL x i = max (Ideal.ofBits FTy.f32 4286578688#32) (x i) := rfl
  rw [h, negInf, max_eq_right bot_le]

theorem refR_at (s) (b : Fin 8) (g : Fin 2) (h : Fin 4) (R : Fin 2048) : refR s (ix4 b g h R) = Finset.univ.fold max (Ideal.ofBits FTy.f32 4286578688#32) (fun x : Fin 2048 => s (ix5 b g h R x)) :=
  redMax s reducesTo_S8x2x4x2048x2048_S8x2x4x2048_d4 b g h R

theorem refM_at (s) (b : Fin 8) (g : Fin 2) (h : Fin 4) (R : Fin 2048) : refM s (ix4 b g h R) = Finset.univ.fold max ⊥ (fun x : Fin 2048 => s (ix5 b g h R x)) := by
  rw [refM, refL_at, refR_at, negInf]

theorem refB_at (x) (b : Fin 8) (g : Fin 2) (h : Fin 4) (R s : Fin 2048) : refB x (ix5 b g h R s) = x (ix4 b g h R) := by
  pointwise [refB]

theorem refE_at (x) (b : Fin 8) (g : Fin 2) (h : Fin 4) (R s : Fin 2048) : refE x (ix5 b g h R s) = Ideal.exp (x (ix5 b g h R s) - refM x (ix4 b g h R)) := by
  pointwise [refE, refB]

theorem refP_at (x) (b : Fin 8) (g : Fin 2) (h : Fin 4) (R s : Fin 2048) : refP x (ix5 b g h R s) = Ideal.div (x (ix5 b g h R s)) (∑ s', x (ix5 b g h R s')) := by
  pointwise [refP, refB]

theorem refO_at (p v) (b : Fin 8) (R : Fin 2048) (w : Fin 512) : refO p v (ix3 b R w) =
    ∑ x : Fin 2048, v (ix4 b x ⟨w.val / 256, by omega⟩ ⟨w.val % 64, by omega⟩) * p (ix5 b ⟨w.val / 256, by omega⟩ ⟨w.val / 64 % 4, by omega⟩ R x) := by
  pointwise [refO]

/-- The reference's run. -/
theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = refO (refP (refE (refS (m ((c.tc : Thread nD τ).loc main_arg0)) (m ((c.tc : Thread nD τ).loc main_arg1))))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

end Cert.ReferenceIdeal.Attn
end
-- ==== Proof.AttnAlg.lean ====
module

public import Idealize.ShloMosaic.PureOps
public import Idealize.ShloMosaic.Lib.Pointwise

@[expose] public section
noncomputable section
namespace Cert.AttnAlg
open Idealize.ShloMosaic

theorem eighth : Ideal.ofBits FTy.f32 1040187392#32 = ((1 / 8 : ℝ) : EReal) := by
  simp [Ideal.ofBits, Ideal.ieee]
  rw [← EReal.coe_mul]
  norm_num

/-- A finite extended real is a real. -/
theorem exists_real {x : EReal} (h : x ≠ ⊤ ∧ x ≠ ⊥) : ∃ r : ℝ, x = (r : EReal) := ⟨x.toReal, (EReal.coe_toReal h.1 h.2).symm⟩

/-- A sum of reals is the real sum. -/
theorem sum_coe {n : ℕ} (f : Fin n → ℝ) : ∑ i, ((f i : ℝ) : EReal) = ((∑ i, f i : ℝ) : EReal) := by
  induction (Finset.univ : Finset (Fin n)) using Finset.induction_on with
  | empty => simp
  | insert a s ha ih => rw [Finset.sum_insert ha, Finset.sum_insert ha, ih, EReal.coe_add]

/-- The maximum of finitely many reals is a real that bounds them. -/
theorem fold_coe {n : ℕ} (f : Fin (n + 1) → ℝ) : ∃ M : ℝ, Finset.univ.fold max ⊥ (fun i => ((f i : ℝ) : EReal)) = (M : EReal) := by
  refine exists_real ⟨ne_of_lt ?_, ne_of_gt ?_⟩
  · rw [Finset.fold_max_lt]
    exact ⟨bot_lt_top, fun x _ => EReal.coe_lt_top _⟩
  · rw [Finset.lt_fold_max]
    exact Or.inr ⟨0, Finset.mem_univ _, EReal.bot_lt_coe _⟩

/-- A nonnegative real factor moves into a sum of extended reals. -/
theorem sum_mul_coe {n : ℕ} (f : Fin n → EReal) (a : ℝ) (ha : 0 ≤ a) : (∑ i, f i) * (a : EReal) = ∑ i, f i * (a : EReal) := by
  induction (Finset.univ : Finset (Fin n)) using Finset.induction_on with
  | empty => simp
  | insert i s hi ih =>
    rw [Finset.sum_insert hi, Finset.sum_insert hi, ← ih]
    exact EReal.right_distrib_of_nonneg_of_ne_top (EReal.coe_nonneg.mpr ha) (EReal.coe_ne_top _) _ _

/-- Normalising after the weighted sum is normalising each weight before it, when the scores are real. -/
theorem softmax_eq {n : ℕ} (S : Fin (n + 1) → EReal) (v : Fin (n + 1) → EReal) (hS : ∀ s, ∃ r : ℝ, S s = (r : EReal)) :
    (∑ s, Ideal.exp (S s - Finset.univ.fold max ⊥ S) * v s) * Ideal.div 1 (∑ s, Ideal.exp (S s - Finset.univ.fold max ⊥ S))
      = ∑ s, v s * Ideal.div (Ideal.exp (S s - Finset.univ.fold max ⊥ S)) (∑ s', Ideal.exp (S s' - Finset.univ.fold max ⊥ S)) := by
  choose f hf using hS
  obtain rfl : S = fun s => ((f s : ℝ) : EReal) := funext hf
  obtain ⟨M, hM⟩ := fold_coe f
  have he : ∀ s, Ideal.exp ((f s : EReal) - Finset.univ.fold max ⊥ (fun s => ((f s : ℝ) : EReal))) = ((Real.exp (f s - M) : ℝ) : EReal) := fun s => by
    rw [hM, ← EReal.coe_sub, Ideal.exp_coe]
  simp only [he]
  rw [sum_coe]
  have hZ : 0 < ∑ s, Real.exp (f s - M) := Finset.sum_pos (fun s _ => Real.exp_pos _) ⟨0, Finset.mem_univ _⟩
  generalize (∑ s, Real.exp (f s - M)) = Z at hZ
  simp only [Ideal.div_coe hZ.ne', one_mul]
  rw [sum_mul_coe _ _ (by positivity)]
  refine Finset.sum_congr rfl fun s _ => ?_
  rw [mul_comm _ (v s), mul_assoc]

/-- Scaling the query first or the score last gives the same real score. -/
theorem score_eq {n : ℕ} (q k : Fin n → EReal) (hq : ∀ d, ∃ r : ℝ, q d = (r : EReal)) (hk : ∀ d, ∃ r : ℝ, k d = (r : EReal)) :
    ∑ d, q d * Ideal.ofBits FTy.f32 1040187392#32 * k d = (∑ d, k d * q d) * Ideal.ofBits FTy.f32 1040187392#32
      ∧ ∃ r : ℝ, (∑ d, k d * q d) * Ideal.ofBits FTy.f32 1040187392#32 = (r : EReal) := by
  choose f hf using hq
  choose g hg using hk
  simp only [hf, hg, eighth, ← EReal.coe_mul, sum_coe]
  refine ⟨congrArg _ ?_, _, rfl⟩
  rw [Finset.sum_mul]
  exact Finset.sum_congr rfl fun d _ => by ring

end Cert.AttnAlg
end
-- ==== Proof.AttnEq.lean ====
module

public import proofs.«01_k».proof.Defs
public import proofs.«01_k».proof.Proof.AttnFinal
public import proofs.«01_k».proof.Proof.AttnRef
public import proofs.«01_k».proof.Proof.AttnAlg
public import Idealize.ShloMosaic.Lib.ReduceAll
public import Idealize.ShloMosaic.Lib.Affine

@[expose] public section
set_option maxRecDepth 16384
noncomputable section
namespace Cert.AttnEq
open Cert.KernelIdeal Idealize.ShloMosaic Idealize.ShloMosaic.TcCoe Idealize.SL.Sem

/-- The predicate's side conditions. -/
theorem preFacts : Cert.Pre_finite.Facts where
  bcast_S_S8x2048x8x64 := by decide
  reducesTo_S8x2048x8x64_S_d0_1_2_3 := by decide
  h_S_ := by decide
  bcast_S_S8x2048x2x64 := by decide
  reducesTo_S8x2048x2x64_S_d0_1_2_3 := by decide

/-- An absolute value under +∞ is a real number's. -/
theorem lt_real (x : EReal) (h : FloatOps.cmpf (F := Ideal) (φ := .f32) .olt (FloatOps.absf (F := Ideal) (φ := .f32) x) (FloatOps.ofBits .f32 0x7F800000#32) = 1#1) : ∃ r : ℝ, x = (r : EReal) := by
  have h' : Ideal.cmp .olt (max x (-x)) (Ideal.ofBits .f32 0x7F800000#32) = 1#1 := h
  have e : Ideal.ofBits .f32 0x7F800000#32 = ⊤ := by simp [Ideal.ofBits, Ideal.ieee]
  rw [e] at h'
  refine AttnAlg.exists_real ⟨?_, ?_⟩ <;> rintro rfl <;> simp [Ideal.cmp] at h'

/-- The precondition makes every query and key a real number. -/
theorem finite_real [Cert.Pre_finite.Facts] (q : FVec Ideal S8x2048x8x64 .f32) (k v : FVec Ideal S8x2048x2x64 .f32)
    (h : ∀ i, Cert.Pre_finite.fn (F := Ideal) q k v i = 1#1) : (∀ i, ∃ r : ℝ, q i = (r : EReal)) ∧ ∀ i, ∃ r : ℝ, k i = (r : EReal) := by
  have h' := h (fun a => a.elim0)
  dsimp only [Cert.Pre_finite.fn] at h'
  obtain ⟨h1, h2⟩ := IntOp.andi_eq_one.1 h'
  exact ⟨fun i => lt_real _ (Host.reduce_andi_all _ _ _ _ _ h1 i), fun i => lt_real _ (Host.reduce_andi_all _ _ _ _ _ h2 i)⟩

theorem value_eq (q : FVec Ideal S8x2048x8x64 .f32) (k v : FVec Ideal S8x2048x2x64 .f32)
    (hq : ∀ i, ∃ r : ℝ, q i = (r : EReal)) (hk : ∀ i, ∃ r : ℝ, k i = (r : EReal)) :
    Cert.KernelIdeal.Attn.kOut q k v = Cert.ReferenceIdeal.Attn.refO (Cert.ReferenceIdeal.Attn.refP (Cert.ReferenceIdeal.Attn.refE (Cert.ReferenceIdeal.Attn.refS q k))) v := by
  funext i
  idx_vars i
  rw [Cert.ReferenceIdeal.Attn.refO_at]
  simp only [Cert.ReferenceIdeal.Attn.refP_at, Cert.ReferenceIdeal.Attn.refE_at, Cert.ReferenceIdeal.Attn.refM_at]
  have hs : Cert.KernelIdeal.Attn.sF q k i0 i1 ⟨i2.val / 64, by omega⟩ ⟨i2.val / 256, by omega⟩
      = fun s => Cert.ReferenceIdeal.Attn.refS q k (ix5 i0 ⟨i2.val / 256, by omega⟩ ⟨i2.val / 64 % 4, by omega⟩ i1 s) := by
    funext s
    rw [Cert.ReferenceIdeal.Attn.refS_at]
    have eh : (⟨i2.val / 256 * 4 + i2.val / 64 % 4, by omega⟩ : Fin 8) = ⟨i2.val / 64, by omega⟩ := Fin.ext (show i2.val / 256 * 4 + i2.val / 64 % 4 = i2.val / 64 by omega)
    rw [eh]
    exact (AttnAlg.score_eq _ _ (fun d => hq _) (fun d => hk _)).1
  have hr : ∀ s, ∃ r : ℝ, Cert.ReferenceIdeal.Attn.refS q k (ix5 i0 ⟨i2.val / 256, by omega⟩ ⟨i2.val / 64 % 4, by omega⟩ i1 s) = (r : EReal) := by
    intro s
    rw [Cert.ReferenceIdeal.Attn.refS_at]
    exact (AttnAlg.score_eq _ _ (fun d => hq _) (fun d => hk _)).2
  have hk' : Cert.KernelIdeal.Attn.kOut q k v (ix3 i0 i1 i2) = Cert.KernelIdeal.Attn.kF q k v i0 i1 ⟨i2.val / 64, by omega⟩ ⟨i2.val / 256, by omega⟩ ⟨i2.val % 64, by omega⟩ := rfl
  rw [hk']
  unfold Cert.KernelIdeal.Attn.kF Cert.KernelIdeal.Attn.wF
  rw [hs]
  exact AttnAlg.softmax_eq _ (fun s => v (ix4 i0 s ⟨i2.val / 256, by omega⟩ ⟨i2.val % 64, by omega⟩)) hr

end Cert.AttnEq
end
-- ==== Proof.FfnLaunch.lean ====
/- The launch of the experts' call: the arrays as the grid finds them, the tables of
   experts, the windows' blocks, and the frame from a run of the grid. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Hand

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
/-! ## custom_call 0 -/

/-- The result is written back at every point. -/
theorem flush0_9 (a : (pcfg0 (F := F)).Adm) : ∀ t : Fin (cfg0 a).N, ((cfg0 a).win 9).flush t = true :=
  (fun t => (Pipeline.Window.flushOf_reads cc0_transform_9 reads0_9 hreads0_9 0 (by decide) (by decide) (Pipeline.Window.sep_of_coord cc0_transform_9 0 0 (fun _ => rfl) (by decide)) (P := 1) (m := 0) (by decide) rfl t).mpr (Nat.mod_one _) : ∀ t : Fin grid0.N, Pipeline.Window.flushOf grid0 true cc0_transform_9 t = true)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_ffn (grid0.coords t) (Memref.whole main_arg3) (Memref.isWhole_whole _) (Memref.whole main_arg4) (Memref.isWhole_whole _) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9))

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` . -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The host code: its operations, then the launch. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The grid finds an array that no host operation writes as it was launched. -/
theorem V_unwritten (c : Dev nD) (b : Ref sig .tc)
    (hb : b ≠ main_cst ∧ b ≠ main_v0 ∧ b ≠ main_v1 ∧ b ≠ main_v2 ∧ b ≠ main_cst_0 ∧ b ≠ main_v3 ∧ b ≠ main_v4 ∧ b ≠ main_v5 ∧ b ≠ main_v6 ∧ b ≠ main_v7 ∧ b ≠ main_v8 ∧ b ≠ main_v9) : V m c b = m ((c : Thread nD τ).loc b) := by
  obtain ⟨h0, h1, h2, h3, h4, h5, h6, h7, h8, h9, h10, h11⟩ := hb
  exact StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by assumption)))

theorem V_main_arg0 (c : Dev nD) : V m c main_arg0 = m ((c : Thread nD τ).loc main_arg0) := V_unwritten m c main_arg0 (by decide)
theorem V_main_arg1 (c : Dev nD) : V m c main_arg1 = m ((c : Thread nD τ).loc main_arg1) := V_unwritten m c main_arg1 (by decide)
theorem V_main_arg2 (c : Dev nD) : V m c main_arg2 = m ((c : Thread nD τ).loc main_arg2) := V_unwritten m c main_arg2 (by decide)
theorem V_main_arg3 (c : Dev nD) : V m c main_arg3 = m ((c : Thread nD τ).loc main_arg3) := V_unwritten m c main_arg3 (by decide)
theorem V_main_arg4 (c : Dev nD) : V m c main_arg4 = m ((c : Thread nD τ).loc main_arg4) := V_unwritten m c main_arg4 (by decide)
theorem V_main_arg5 (c : Dev nD) : V m c main_arg5 = m ((c : Thread nD τ).loc main_arg5) := V_unwritten m c main_arg5 (by decide)
theorem V_main_arg6 (c : Dev nD) : V m c main_arg6 = m ((c : Thread nD τ).loc main_arg6) := V_unwritten m c main_arg6 (by decide)
theorem V_main_arg7 (c : Dev nD) : V m c main_arg7 = m ((c : Thread nD τ).loc main_arg7) := V_unwritten m c main_arg7 (by decide)
theorem V_main_arg8 (c : Dev nD) : V m c main_arg8 = m ((c : Thread nD τ).loc main_arg8) := V_unwritten m c main_arg8 (by decide)
theorem V_main_arg9 (c : Dev nD) : V m c main_arg9 = m ((c : Thread nD τ).loc main_arg9) := V_unwritten m c main_arg9 (by decide)
theorem V_main_arg10 (c : Dev nD) : V m c main_arg10 = m ((c : Thread nD τ).loc main_arg10) := V_unwritten m c main_arg10 (by decide)

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The side condition on the tables: at every point every window that reads one has its block inside its array. -/
abbrev Ok : Prop := ok0 (F := F) (tbl m)
/-- The tables' contents as ADMISSIBLE contents, and the pipeline at them: what the launch runs. -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S88 .i32 := Memref.whole main_arg3
abbrev htbM0_0 : tbM0_0.IsWhole := Memref.isWhole_whole _
abbrev tbM0_1 : Memref sig .tc .smem S88 .i32 := Memref.whole main_arg4
abbrev htbM0_1 : tbM0_1.IsWhole := Memref.isWhole_whole _
abbrev tbM0_2 : Memref sig .tc .smem S1 .i32 := Memref.whole main_arg5
abbrev htbM0_2 : tbM0_2.IsWhole := Memref.isWhole_whole _

/-- A table's buffer on core `c`: its contents' type, and the buffer held at half the full share at `f`, for reading. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves that the body is handed, table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The buffer of the first input holds its block at every point, fetched there or not. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same of input 1. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same of input 2. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The same of input 3. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- The same of input 4. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- The same of input 5. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- The same of input 6. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- The same of input 7. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- The same of input 8. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run of the grid leaves the arguments unchanged: no window writes one, and no host operation. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c),
      ((h c).2 main_arg10 (by decide : main_arg10 ∈ Pipeline.restRefs sig spec0)).trans (V_main_arg10 m c)⟩) h

/-! ## The kernel body on any staging memrefs: a subtype the run finds -/

/-- One staging buffer of output window 9, through which its contents are stated (`View.read_writes_of_cover`: the
    choice does not matter). -/
abbrev VO0_9 : View sig .tc .vmem S256x1024 .f32 := (Memref.whole cc0_stg9_0 : Memref sig .tc .vmem S256x1024 .f32).view
/-- Each window's current staging memref at point `t`, spelled as the pipeline passes it (`bodyAt0`), and its wholeness. -/
abbrev ms0_0 (hO : Ok m) (t : Fin (cfgM m hO).N) : Memref sig .tc .vmem S256x1152 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x512 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1024x512 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x512x1024 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1024x512 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1024x512 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x512x1024 .bf16 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S256x1024 .f32 := spec0_9.stage ((cfgM m hO).slots t 9)
abbrev hs0_9 (hO : Ok m) (t : Fin (cfgM m hO).N) : (ms0_9 m hO t).IsWhole := hstage0_9 (((cfgM m hO).slots t 9).cast nbuf0_9)

end Cert.Kernel2Ideal.Hand

end
-- ==== Proof.FfnRun.lean ====
/- The body of the experts' call, run once where the tile is used and once where it is past the last one. -/
module

public import proofs.«01_k».proof.Proof.FfnLaunch

@[expose] public section

set_option maxRecDepth 16384

noncomputable section

namespace Cert.Kernel2Ideal.Hand

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The number of used tiles, as the body reads it. -/
abbrev ntOf (c : Dev nD) (xt2 : TbBuf0 (F := F) c tbM0_2) : BitVec 32 := xt2 ((Rect.unit (s := S1) ![0] S1.size inb_S1_S1_0).emb (Shape.Idx.first (numel1_S1.symm ▸ Nat.one_pos)))

-- the run is long
set_option maxHeartbeats 1000000 in
/-- The body at a used tile, on any staging buffers: the pieces it leaves in the output. -/
noncomputable def runUsed (c : Dev nD) (i : grid0.Coords) (arg4 : Memref sig .tc .vmem S256x1152 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x512x1024 .bf16) (harg12 : arg12.IsWhole) (arg13 : Memref sig .tc .vmem S256x1024 .f32) (harg13 : arg13.IsWhole)
    (x0 : Vec F S256x1152 .f32) (x1 : Vec F S1x1024 .f32) (x2 : Vec F S1x1024 .f32) (x3 : Vec F S1x1024x512 .bf16) (x4 : Vec F S1x1024x512 .bf16) (x5 : Vec F S1x512x1024 .bf16) (x6 : Vec F S1x1024x512 .bf16) (x7 : Vec F S1x1024x512 .bf16) (x8 : Vec F S1x512x1024 .bf16) (xt0 : TbBuf0 (F := F) c tbM0_0) (xt1 : TbBuf0 (F := F) c tbM0_1) (xt2 : TbBuf0 (F := F) c tbM0_2)
    (h1 : k0_cond1 i (ntOf c xt2) = 1#1) (h2 : k0_cond2 i (ntOf c xt2) ≠ 1#1) :
    { L9 : List (View.Piece (Elt F) S256x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ f, arg13.view.loc (c : Thread nD τ) ↦[arg13.view.set]{fullShare} arg13.view.writes (Elt F) f L9) ∗ tbPt0 c tbM0_0 xt0 ∗ tbPt0 c tbM0_1 xt1 ∗ tbPt0 c tbM0_2 xt2) -∗ K ⟨⟩))
          ⊢ wp frame (wpE (defs₀ (F := F)) Variants.none c none) E (cc0_ffn i tbM0_0 htbM0_0 tbM0_1 htbM0_1 tbM0_2 htbM0_2 arg4 harg4 arg5 harg5 arg6 harg6 arg7 harg7 arg8 harg8 arg9 harg9 arg10 harg10 arg11 harg11 arg12 harg12 arg13 harg13) K } := by
  refine ⟨?_, fun E K => ?run⟩
  case run =>
    simp only [cc0_ffn_eq_skeleton]; unfold cc0_ffn_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8
    sl_exec (disch := first | sl_exact h1 | sl_exact h2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; · ipureintro; exact harg12.read_unread _
      iexact H8
    isplitl [H9]; · iexists _; iexact H9
    isplitl [HT0]; · iexact HT0
    isplitl [HT1]; · iexact HT1
    iexact HT2

-- the run is long
set_option maxHeartbeats 1000000 in
/-- The body at a tile past the last used one: the pieces it leaves in the output. -/
noncomputable def runPast (c : Dev nD) (i : grid0.Coords) (arg4 : Memref sig .tc .vmem S256x1152 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x512x1024 .bf16) (harg12 : arg12.IsWhole) (arg13 : Memref sig .tc .vmem S256x1024 .f32) (harg13 : arg13.IsWhole)
    (x0 : Vec F S256x1152 .f32) (x1 : Vec F S1x1024 .f32) (x2 : Vec F S1x1024 .f32) (x3 : Vec F S1x1024x512 .bf16) (x4 : Vec F S1x1024x512 .bf16) (x5 : Vec F S1x512x1024 .bf16) (x6 : Vec F S1x1024x512 .bf16) (x7 : Vec F S1x1024x512 .bf16) (x8 : Vec F S1x512x1024 .bf16) (xt0 : TbBuf0 (F := F) c tbM0_0) (xt1 : TbBuf0 (F := F) c tbM0_1) (xt2 : TbBuf0 (F := F) c tbM0_2)
    (h1 : k0_cond1 i (ntOf c xt2) ≠ 1#1) (h2 : k0_cond2 i (ntOf c xt2) = 1#1) :
    { L9 : List (View.Piece (Elt F) S256x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ f, arg13.view.loc (c : Thread nD τ) ↦[arg13.view.set]{fullShare} arg13.view.writes (Elt F) f L9) ∗ tbPt0 c tbM0_0 xt0 ∗ tbPt0 c tbM0_1 xt1 ∗ tbPt0 c tbM0_2 xt2) -∗ K ⟨⟩))
          ⊢ wp frame (wpE (defs₀ (F := F)) Variants.none c none) E (cc0_ffn i tbM0_0 htbM0_0 tbM0_1 htbM0_1 tbM0_2 htbM0_2 arg4 harg4 arg5 harg5 arg6 harg6 arg7 harg7 arg8 harg8 arg9 harg9 arg10 harg10 arg11 harg11 arg12 harg12 arg13 harg13) K } := by
  refine ⟨?_, fun E K => ?run⟩
  case run =>
    simp only [cc0_ffn_eq_skeleton]; unfold cc0_ffn_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8
    sl_exec (disch := first | sl_exact h1 | sl_exact h2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; · ipureintro; exact harg12.read_unread _
      iexact H8
    isplitl [H9]; · iexists _; iexact H9
    isplitl [HT0]; · iexact HT0
    isplitl [HT1]; · iexact HT1
    iexact HT2

end Cert.Kernel2Ideal.Hand

end
-- ==== Proof.FfnFrame.lean ====
/- The run of the experts' call over its grid and its frame. -/
module

public import proofs.«01_k».proof.Proof.FfnRun
public import Idealize.ShloMosaic.Lib.Claim

@[expose] public section

set_option maxRecDepth 16384

noncomputable section

namespace Cert.Kernel2Ideal.Hand

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces of a used tile cover the output's block. -/
theorem coverUsed (c : Dev nD) (i : grid0.Coords) (arg4 : Memref sig .tc .vmem S256x1152 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x512x1024 .bf16) (harg12 : arg12.IsWhole) (arg13 : Memref sig .tc .vmem S256x1024 .f32) (harg13 : arg13.IsWhole)
    (x0 : Vec F S256x1152 .f32) (x1 : Vec F S1x1024 .f32) (x2 : Vec F S1x1024 .f32) (x3 : Vec F S1x1024x512 .bf16) (x4 : Vec F S1x1024x512 .bf16) (x5 : Vec F S1x512x1024 .bf16) (x6 : Vec F S1x1024x512 .bf16) (x7 : Vec F S1x1024x512 .bf16) (x8 : Vec F S1x512x1024 .bf16) (xt0 : TbBuf0 (F := F) c tbM0_0) (xt1 : TbBuf0 (F := F) c tbM0_1) (xt2 : TbBuf0 (F := F) c tbM0_2)
    (h1 : k0_cond1 i (ntOf c xt2) = 1#1) (h2 : k0_cond2 i (ntOf c xt2) ≠ 1#1) (y : S256x1024.Idx) :
    ∃ pc ∈ (runUsed c i arg4 harg4 arg5 harg5 arg6 harg6 arg7 harg7 arg8 harg8 arg9 harg9 arg10 harg10 arg11 harg11 arg12 harg12 arg13 harg13 x0 x1 x2 x3 x4 x5 x6 x7 x8 xt0 xt1 xt2 h1 h2).1, y ∈ pc.1.set :=
  View.cover_of_tiledL (runUsed c i arg4 harg4 arg5 harg5 arg6 harg6 arg7 harg7 arg8 harg8 arg9 harg9 arg10 harg10 arg11 harg11 arg12 harg12 arg13 harg13 x0 x1 x2 x3 x4 x5 x6 x7 x8 xt0 xt1 xt2 h1 h2).1 S256x1024.size (by sl_kernel_rfl) y

/-- The block a used tile leaves. -/
def outUsed (c : Dev nD) (i : grid0.Coords) (arg4 : Memref sig .tc .vmem S256x1152 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x512x1024 .bf16) (harg12 : arg12.IsWhole) (arg13 : Memref sig .tc .vmem S256x1024 .f32) (harg13 : arg13.IsWhole)
    (x0 : Vec F S256x1152 .f32) (x1 : Vec F S1x1024 .f32) (x2 : Vec F S1x1024 .f32) (x3 : Vec F S1x1024x512 .bf16) (x4 : Vec F S1x1024x512 .bf16) (x5 : Vec F S1x512x1024 .bf16) (x6 : Vec F S1x1024x512 .bf16) (x7 : Vec F S1x1024x512 .bf16) (x8 : Vec F S1x512x1024 .bf16) (xt0 : TbBuf0 (F := F) c tbM0_0) (xt1 : TbBuf0 (F := F) c tbM0_1) (xt2 : TbBuf0 (F := F) c tbM0_2)
    (h1 : k0_cond1 i (ntOf c xt2) = 1#1) (h2 : k0_cond2 i (ntOf c xt2) ≠ 1#1) : Vec F S256x1024 .f32 :=
  VO0_9.read (Elt F) (VO0_9.writes (Elt F) VO0_9.junk (runUsed c i arg4 harg4 arg5 harg5 arg6 harg6 arg7 harg7 arg8 harg8 arg9 harg9 arg10 harg10 arg11 harg11 arg12 harg12 arg13 harg13 x0 x1 x2 x3 x4 x5 x6 x7 x8 xt0 xt1 xt2 h1 h2).1)

/-- The piece of a tile past the last covers the block. -/
theorem coverPast (c : Dev nD) (i : grid0.Coords) (arg4 : Memref sig .tc .vmem S256x1152 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x512x1024 .bf16) (harg12 : arg12.IsWhole) (arg13 : Memref sig .tc .vmem S256x1024 .f32) (harg13 : arg13.IsWhole)
    (x0 : Vec F S256x1152 .f32) (x1 : Vec F S1x1024 .f32) (x2 : Vec F S1x1024 .f32) (x3 : Vec F S1x1024x512 .bf16) (x4 : Vec F S1x1024x512 .bf16) (x5 : Vec F S1x512x1024 .bf16) (x6 : Vec F S1x1024x512 .bf16) (x7 : Vec F S1x1024x512 .bf16) (x8 : Vec F S1x512x1024 .bf16) (xt0 : TbBuf0 (F := F) c tbM0_0) (xt1 : TbBuf0 (F := F) c tbM0_1) (xt2 : TbBuf0 (F := F) c tbM0_2)
    (h1 : k0_cond1 i (ntOf c xt2) ≠ 1#1) (h2 : k0_cond2 i (ntOf c xt2) = 1#1) (y : S256x1024.Idx) :
    ∃ pc ∈ (runPast c i arg4 harg4 arg5 harg5 arg6 harg6 arg7 harg7 arg8 harg8 arg9 harg9 arg10 harg10 arg11 harg11 arg12 harg12 arg13 harg13 x0 x1 x2 x3 x4 x5 x6 x7 x8 xt0 xt1 xt2 h1 h2).1, y ∈ pc.1.set :=
  View.cover_of_tiledL (runPast c i arg4 harg4 arg5 harg5 arg6 harg6 arg7 harg7 arg8 harg8 arg9 harg9 arg10 harg10 arg11 harg11 arg12 harg12 arg13 harg13 x0 x1 x2 x3 x4 x5 x6 x7 x8 xt0 xt1 xt2 h1 h2).1 S256x1024.size (by sl_kernel_rfl) y

/-- The block a tile past the last leaves. -/
def outPast (c : Dev nD) (i : grid0.Coords) (arg4 : Memref sig .tc .vmem S256x1152 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x512x1024 .bf16) (harg12 : arg12.IsWhole) (arg13 : Memref sig .tc .vmem S256x1024 .f32) (harg13 : arg13.IsWhole)
    (x0 : Vec F S256x1152 .f32) (x1 : Vec F S1x1024 .f32) (x2 : Vec F S1x1024 .f32) (x3 : Vec F S1x1024x512 .bf16) (x4 : Vec F S1x1024x512 .bf16) (x5 : Vec F S1x512x1024 .bf16) (x6 : Vec F S1x1024x512 .bf16) (x7 : Vec F S1x1024x512 .bf16) (x8 : Vec F S1x512x1024 .bf16) (xt0 : TbBuf0 (F := F) c tbM0_0) (xt1 : TbBuf0 (F := F) c tbM0_1) (xt2 : TbBuf0 (F := F) c tbM0_2)
    (h1 : k0_cond1 i (ntOf c xt2) ≠ 1#1) (h2 : k0_cond2 i (ntOf c xt2) = 1#1) : Vec F S256x1024 .f32 :=
  VO0_9.read (Elt F) (VO0_9.writes (Elt F) VO0_9.junk (runPast c i arg4 harg4 arg5 harg5 arg6 harg6 arg7 harg7 arg8 harg8 arg9 harg9 arg10 harg10 arg11 harg11 arg12 harg12 arg13 harg13 x0 x1 x2 x3 x4 x5 x6 x7 x8 xt0 xt1 xt2 h1 h2).1)

variable (m : (ℓ : Loc nD τ sig) → Buf (Elt F) ℓ) (ρ : Dev nD → PrngReg)

/-- The two conditions exclude each other. -/
theorem cond_used (i : grid0.Coords) (v : BitVec 32) (h : k0_cond1 i v = 1#1) : k0_cond2 i v ≠ 1#1 := by
  revert h; unfold k0_cond1 k0_cond2; dsimp only
  generalize Scalar.cmpi .slt (BitVec.ofNat 32 (i 0).val) v = b
  revert b; decide

/-- One of the two conditions holds at every point. -/
theorem cond_past (i : grid0.Coords) (v : BitVec 32) (h : k0_cond1 i v ≠ 1#1) : k0_cond2 i v = 1#1 := by
  revert h; unfold k0_cond1 k0_cond2; dsimp only
  generalize Scalar.cmpi .slt (BitVec.ofNat 32 (i 0).val) v = b
  revert b; decide

/-- What the output's staging buffer holds after the body at point `t`. -/
def outsAt0 (hO : Ok m) (c : Dev nD) (t : Fin (cfgM m hO).N) : Vec F S256x1024 .f32 :=
  if h : k0_cond1 (grid0.coords t) (ntOf c (tbl m 2)) = 1#1
  then outUsed c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (tbl m 2) h (cond_used _ _ h)
  else outPast c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (tbl m 2) h (cond_past _ _ h)

/-! ## The pipeline's proof data -/

/-- What the run keeps on core `c`: the arrays as the grid finds them, each input's buffer at its block, the output's at `outsAt0`,
    the tables' halves, and each input's share of its array (two windows share each weight array). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => (outsAt0 m hO c t)
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d

/-! ## The body obligation, at a generic point -/

/-- What the body is called with at point `t` (the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t))

set_option maxHeartbeats 800000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9]
  rw [show (dats m hO 0 c).Φ t.castSucc = iprop(Pipeline.ΦA spec0 c ∗ Pipeline.ΦT pre0 (tbl m) c) from rfl, PhiT0_eq]
  unfold outsAt0
  by_cases h : k0_cond1 (grid0.coords t) (ntOf c (tbl m 2)) = 1#1
  · rw [dif_pos h]; unfold outUsed
    iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runUsed c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (tbl m 2) h (cond_used _ _ h)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HT0]; · iexact HT0
    isplitl [HT1]; · iexact HT1
    isplitl [HT2]; · iexact HT2
    iintro ⟨H0, H1, H2, H3, H4, H5, H6, H7, H8, ⟨%e9, H9⟩, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (coverUsed c _ _ _ _ _ _ _ _ _ _ _ _ _ _ _ _ _ _ _ _ _ _ _ _ _ _ _ _ _ _ _ _ _ _ _)
  · rw [dif_neg h]; unfold outPast
    iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runPast c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (tbl m 2) h (cond_past _ _ h)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HT0]; · iexact HT0
    isplitl [HT1]; · iexact HT1
    isplitl [HT2]; · iexact HT2
    iintro ⟨H0, H1, H2, H3, H4, H5, H6, H7, H8, ⟨%e9, H9⟩, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (coverPast c _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- One of the two conditions holds. -/
theorem one_holds (i : grid0.Coords) (v : BitVec 32) : (!(k0_cond1 i v == 1#1) && !(k0_cond2 i v == 1#1)) = false := by
  by_cases h : k0_cond1 i v = 1#1
  · rw [h]; rfl
  · rw [cond_past _ _ h]; simp

/-- So the output is stored at every point. -/
theorem idle0_9 (pf : pre0.Contents (Elt F)) (i : grid0.Coords) : idle0 pf 9 i = false :=
  one_holds i _

set_option maxHeartbeats 1000000 in
/-- The body obligation, at every point. -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  dsimp only
  split
  · rename_i h
    exact absurd (h.symm.trans (idle0_9 _ _)) (by decide)
  · exact .rfl

/-! ## The run and the frame -/

set_option backward.isDefEq.respectTransparency.types false in
/-- The run of the launch, which ends with every semaphore counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- The run without the counters: the result holds the blocks that the body left, and nothing else has changed since the host code. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ hO (dats m hO) (A_eq m hO) (run_main m ρ hO)

/-- The frame: the run ends, the arguments are unchanged and every counter is zero, where the tables keep the blocks inside their arrays. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ hO) ((θ_run defs _ _).mono (fun _ h => h.2) (run_main_quiescent m ρ hO))

end Cert.Kernel2Ideal.Hand

end
-- ==== Proof.FfnPre.lean ====
module

public import proofs.«01_k».proof.Pre_experts_in_range
public import proofs.«01_k».proof.Pre_experts_differ
public import Idealize.ShloMosaic.Lib.ReduceAll
public import Idealize.ShloMosaic.Lib.Affine

@[expose] public section
set_option maxRecDepth 16384
noncomputable section
namespace Cert.FfnPre
open Idealize.ShloMosaic Cert.Pre_experts_in_range

/-- The side conditions of the predicate on the range. -/
theorem preFacts : Cert.Pre_experts_in_range.Facts where
  bcast_S_S88 := by decide
  reducesTo_S88_S_d0 := by decide
  h_S_ := by decide

/-- The side conditions of the predicate on range and difference. -/
theorem differFacts : Cert.Pre_experts_differ.Facts where
  bcast_S_S88 := by decide
  reducesTo_S88_S_d0 := by decide
  h_S_ := by decide

/-- A word between zero and sixteen, both compared as signed words. -/
theorem lt16 (x : BitVec 32) (h : IntOp.andi (IntOp.cmpi .sge x 0#32) (IntOp.cmpi .slt x 16#32) = 1#1) : x.toNat < 16 := by
  obtain ⟨h1, h2⟩ := IntOp.andi_eq_one.1 h
  rw [IntOp.cmpi_sge] at h1
  rw [IntOp.cmpi_slt] at h2
  have e0 : (0#32 : BitVec 32).toInt = 0 := by decide
  have e1 : (16#32 : BitVec 32).toInt = 16 := by decide
  rw [e0] at h1
  rw [e1] at h2
  rw [BitVec.toInt_eq_toNat_cond] at h1 h2
  have := x.isLt
  split at h1 <;> omega

theorem ne_of (x y : BitVec 32) (h : IntOp.cmpi .ne x y = 1#1) : x ≠ y := by
  rintro rfl
  simp [IntOp.cmpi] at h

/-- The precondition on the range: both experts of every tile are among the sixteen. -/
theorem decoded {F : FTy → Type} [FloatOps F] (a0 : FVec F S22528x1024 .f32) (a1 a2 : FVec F S22528 .f32) (ea eb : IVec S88 32) (a5 : IVec S1 32)
    (a6 a7 : FVec F S1024 .f32) (a8 a9 : FVec F S16x1024x512 .f32) (a10 : FVec F S16x512x1024 .f32)
    (h : ∀ i, @fn preFacts F _ a0 a1 a2 ea eb a5 a6 a7 a8 a9 a10 i = 1#1) :
    (∀ i, (ea i).toNat < 16) ∧ ∀ i, (eb i).toNat < 16 := by
  have h' := h (fun a => a.elim0)
  dsimp only [fn] at h'
  obtain ⟨h1, h2⟩ := IntOp.andi_eq_one.1 h'
  exact ⟨fun i => lt16 _ (Host.reduce_andi_all _ _ _ _ _ h1 i), fun i => lt16 _ (Host.reduce_andi_all _ _ _ _ _ h2 i)⟩

/-- The other precondition: both experts of every tile are among the sixteen, and differ. -/
theorem decodedDiffer {F : FTy → Type} [FloatOps F] (a0 : FVec F S22528x1024 .f32) (a1 a2 : FVec F S22528 .f32) (ea eb : IVec S88 32) (a5 : IVec S1 32)
    (a6 a7 : FVec F S1024 .f32) (a8 a9 : FVec F S16x1024x512 .f32) (a10 : FVec F S16x512x1024 .f32)
    (h : ∀ i, @Cert.Pre_experts_differ.fn differFacts F _ a0 a1 a2 ea eb a5 a6 a7 a8 a9 a10 i = 1#1) :
    ((∀ i, (ea i).toNat < 16) ∧ ∀ i, (eb i).toNat < 16) ∧ ∀ i, ea i ≠ eb i := by
  have h' := h (fun a => a.elim0)
  dsimp only [Cert.Pre_experts_differ.fn] at h'
  obtain ⟨h12, h3⟩ := IntOp.andi_eq_one.1 h'
  obtain ⟨h1, h2⟩ := IntOp.andi_eq_one.1 h12
  exact ⟨⟨fun i => lt16 _ (Host.reduce_andi_all _ _ _ _ _ h1 i), fun i => lt16 _ (Host.reduce_andi_all _ _ _ _ _ h2 i)⟩,
    fun i => ne_of _ _ (Host.reduce_andi_all _ _ _ _ _ h3 i)⟩

/-- The row block a grid point reads: its own, or the last used one. -/
def rowOf (n : BitVec 32) (t : ℕ) : ℕ := (Scalar.maxsi (Scalar.minsi (BitVec.ofNat 32 t) (Scalar.subi n 1#32)) 0#32).toNat

theorem rowOf_le (n : BitVec 32) (t : ℕ) (ht : t < 88) : rowOf n t ≤ 87 := by
  unfold rowOf Scalar.maxsi Scalar.minsi IntOp.maxsi IntOp.minsi
  generalize Scalar.subi n 1#32 = y
  have hy := y.isLt
  have e0 : (0#32 : BitVec 32).toInt = 0 := by decide
  have e0' : (0#32 : BitVec 32).toNat = 0 := by decide
  have et : (BitVec.ofNat 32 t).toNat = t := by rw [BitVec.toNat_ofNat]; omega
  have et' : (BitVec.ofNat 32 t).toInt = t := by rw [BitVec.toInt_eq_toNat_cond, et, if_pos (by omega)]
  by_cases h1 : (BitVec.ofNat 32 t).slt y = true
  · rw [if_pos h1]
    split
    · omega
    · omega
  · rw [if_neg h1]
    rw [BitVec.slt_iff_toInt_lt, et'] at h1
    split
    · rename_i h2
      rw [BitVec.slt_iff_toInt_lt, e0] at h2
      rw [BitVec.toInt_eq_toNat_cond] at h1 h2
      split at h1 <;> omega
    · omega

theorem rowOf_eq (n : BitVec 32) (t : ℕ) (ht : t < 88) (h : (BitVec.ofNat 32 t).slt n = true) : rowOf n t = t := by
  unfold rowOf Scalar.maxsi Scalar.minsi IntOp.maxsi IntOp.minsi
  have hn := n.isLt
  have e0 : (0#32 : BitVec 32).toInt = 0 := by decide
  have e0' : (0#32 : BitVec 32).toNat = 0 := by decide
  have et : (BitVec.ofNat 32 t).toNat = t := by rw [BitVec.toNat_ofNat]; omega
  have et' : (BitVec.ofNat 32 t).toInt = t := by rw [BitVec.toInt_eq_toNat_cond, et, if_pos (by omega)]
  rw [BitVec.slt_iff_toInt_lt, et', BitVec.toInt_eq_toNat_cond] at h
  have hn2 : 2 * n.toNat < 2 ^ 32 := by split at h <;> omega
  rw [if_pos hn2] at h
  have es : (Scalar.subi n 1#32).toNat = n.toNat - 1 := by
    show (n - 1#32).toNat = _
    rw [BitVec.toNat_sub]
    have : (1#32 : BitVec 32).toNat = 1 := by decide
    omega
  have es' : (Scalar.subi n 1#32).toInt = n.toNat - 1 := by rw [BitVec.toInt_eq_toNat_cond, es, if_pos (by omega)]; omega
  by_cases h1 : (BitVec.ofNat 32 t).slt (Scalar.subi n 1#32) = true
  · rw [if_pos h1]
    split
    · exact et
    · rename_i h2
      rw [BitVec.slt_iff_toInt_lt, e0, et'] at h2
      omega
  · rw [if_neg h1]
    rw [BitVec.slt_iff_toInt_lt, et', es'] at h1
    split
    · omega
    · rename_i h2
      rw [BitVec.slt_iff_toInt_lt, e0, es'] at h2
      omega

end Cert.FfnPre
end
-- ==== Proof.FfnOk.lean ====
module

public import proofs.«01_k».proof.Proof.FfnFrame
public import proofs.«01_k».proof.Proof.FfnPre

@[expose] public section
set_option maxRecDepth 16384
noncomputable section
namespace Cert.Kernel2Ideal.Hand
open Cert.Kernel2Ideal Cert.Kernel2Ideal.Gen Idealize.ShloMosaic Idealize.ShloMosaic.TcCoe Idealize.SL.Sem

section
variable {F : FTy → Type} [FloatOps F]

/-- The table of first experts. -/
def tA (pf : pre0.Contents (Elt F)) : S88.Idx → BitVec 32 := pf 0
/-- The table of second experts. -/
def tB (pf : pre0.Contents (Elt F)) : S88.Idx → BitVec 32 := pf 1
/-- The number of used tiles. -/
def tN (pf : pre0.Contents (Elt F)) : S1.Idx → BitVec 32 := pf 2

theorem ok_of (pf : pre0.Contents (Elt F)) (hA : ∀ i, (tA pf i).toNat < 16) (hB : ∀ i, (tB pf i).toNat < 16) : ok0 pf := by
  refine ⟨fun i => ⟨fun a => ?_, .inl rfl⟩, fun i => ⟨fun a => ?_, .inr (.inr ⟨by decide, rfl, rfl, rfl⟩)⟩, fun i => ⟨fun a => ?_, .inr (.inr ⟨by decide, rfl, rfl, rfl⟩)⟩,
    fun i => ⟨fun a => ?_, .inr (.inr ⟨by decide, rfl, rfl, rfl⟩)⟩, fun i => ⟨fun a => ?_, .inr (.inr ⟨by decide, rfl, rfl, rfl⟩)⟩,
    fun i => ⟨fun a => ?_, .inr (.inr ⟨by decide, rfl, rfl, rfl⟩)⟩, fun i => ⟨fun a => ?_, .inr (.inr ⟨by decide, rfl, rfl, rfl⟩)⟩⟩
  · have h : Cert.FfnPre.rowOf (pf.at 2 (Rect.unit (s := S1) ![0] S1.size inb_S1_S1_0) numel1_S1) (i 0).val ≤ 87 := Cert.FfnPre.rowOf_le _ _ (i 0).isLt
    fin_cases a
    · show (Cert.FfnPre.rowOf (pf.at 2 (Rect.unit (s := S1) ![0] S1.size inb_S1_S1_0) numel1_S1) (i 0).val + 1) * 256 ≤ 22528
      omega
    · exact (by decide : (0 + 1) * 1152 ≤ 1152)
  all_goals fin_cases a
  · exact (Nat.mul_one _).trans_le (Nat.succ_le_of_lt (hA _))
  · exact (by decide : (0 + 1) * 1024 ≤ 1024)
  · exact (by decide : (0 + 1) * 512 ≤ 512)
  · exact (Nat.mul_one _).trans_le (Nat.succ_le_of_lt (hA _))
  · exact (by decide : (0 + 1) * 1024 ≤ 1024)
  · exact (by decide : (0 + 1) * 512 ≤ 512)
  · exact (Nat.mul_one _).trans_le (Nat.succ_le_of_lt (hA _))
  · exact (by decide : (0 + 1) * 512 ≤ 512)
  · exact (by decide : (0 + 1) * 1024 ≤ 1024)
  · exact (Nat.mul_one _).trans_le (Nat.succ_le_of_lt (hB _))
  · exact (by decide : (0 + 1) * 1024 ≤ 1024)
  · exact (by decide : (0 + 1) * 512 ≤ 512)
  · exact (Nat.mul_one _).trans_le (Nat.succ_le_of_lt (hB _))
  · exact (by decide : (0 + 1) * 1024 ≤ 1024)
  · exact (by decide : (0 + 1) * 512 ≤ 512)
  · exact (Nat.mul_one _).trans_le (Nat.succ_le_of_lt (hB _))
  · exact (by decide : (0 + 1) * 512 ≤ 512)
  · exact (by decide : (0 + 1) * 1024 ≤ 1024)

variable (m : (ℓ : Loc nD τ sig) → Buf (Elt F) ℓ)

theorem tA_tbl : tA (tbl m) = m (((0 : Dev nD) : Thread nD τ).loc main_arg3) := V_main_arg3 m 0
theorem tB_tbl : tB (tbl m) = m (((0 : Dev nD) : Thread nD τ).loc main_arg4) := V_main_arg4 m 0
theorem tN_tbl : tN (tbl m) = m (((0 : Dev nD) : Thread nD τ).loc main_arg5) := V_main_arg5 m 0

/-- Experts among the sixteen put every block inside its array. -/
theorem ok_args (h : (∀ i, (m (((0 : Dev nD) : Thread nD τ).loc main_arg3) i : BitVec 32).toNat < 16) ∧ ∀ i, (m (((0 : Dev nD) : Thread nD τ).loc main_arg4) i : BitVec 32).toNat < 16) : Ok m := by
  refine ok_of (tbl m) ?_ ?_
  · rw [tA_tbl]; exact h.1
  · rw [tB_tbl]; exact h.2

end

end Cert.Kernel2Ideal.Hand
end
-- ==== Proof.FfnMath.lean ====
module

public import Idealize.ShloMosaic.Lib.Pipeline.ValueKit
public import Idealize.ShloMosaic.Lib.Pointwise

@[expose] public section
noncomputable section
namespace Cert.Ffn
open Idealize.ShloMosaic

/-- The reciprocal root mean square of a row. -/
def ms (x : Fin 1024 → EReal) : EReal :=
  Ideal.rsqrt (Ideal.div (∑ k, x k * x k) (Ideal.ofBits .f32 0x44800000#32) + Ideal.ofBits .f32 0x358637BD#32)

/-- A row normalised and scaled by a gain. -/
def nrm (x g : Fin 1024 → EReal) (d : Fin 1024) : EReal := x d * ms x * g d

/-- One hidden value of one expert: the gated unit of the two projections. -/
def act (h : Fin 1024 → EReal) (wg wu : Fin 1024 → Fin 512 → EReal) (f : Fin 512) : EReal :=
  ((∑ k, h k * wg k f) * Ideal.logistic (∑ k, h k * wg k f)) * ∑ k, h k * wu k f

/-- What one expert adds to a row, its hidden values weighted by the routing weight. -/
def con (h : Fin 1024 → EReal) (wg wu : Fin 1024 → Fin 512 → EReal) (wd : Fin 512 → Fin 1024 → EReal) (w : EReal) (d : Fin 1024) : EReal :=
  ∑ f, act h wg wu f * w * wd f d

/-- A row with its two experts added. -/
def two (x h : Fin 1024 → EReal) (wg wu : Fin 16 → Fin 1024 → Fin 512 → EReal) (wd : Fin 16 → Fin 512 → Fin 1024 → EReal)
    (a b : Fin 16) (wa wb : EReal) (d : Fin 1024) : EReal :=
  x d + con h (wg a) (wu a) (wd a) wa d + con h (wg b) (wu b) (wd b) wb d

/-- The expert a table entry names. -/
def ex (v : BitVec 32) : Fin 16 := ⟨v.toNat % 16, Nat.mod_lt _ (by decide)⟩

/-- The tile of a row. -/
def tile (t : Fin 22528) : Fin 88 := ⟨t.val / 256, by omega⟩

/-- The layer's result at a row and a lane: zero past the used tiles. -/
def out (x : Fin 22528 → Fin 1024 → EReal) (wa wb : Fin 22528 → EReal) (ea eb : Fin 88 → BitVec 32) (n : BitVec 32) (g fg : Fin 1024 → EReal)
    (wg wu : Fin 16 → Fin 1024 → Fin 512 → EReal) (wd : Fin 16 → Fin 512 → Fin 1024 → EReal) (t : Fin 22528) (d : Fin 1024) : EReal :=
  if (BitVec.ofNat 32 (t.val / 256)).slt n = true
  then nrm (two (x t) (nrm (x t) g) wg wu wd (ex (ea (tile t))) (ex (eb (tile t))) (wa t) (wb t)) fg d
  else 0

/-- The sum over every expert, of which only the two routed ones have a gate other than zero. -/
theorem all_experts (h : Fin 1024 → EReal) (wg wu : Fin 16 → Fin 1024 → Fin 512 → EReal) (wd : Fin 16 → Fin 512 → Fin 1024 → EReal)
    (a b : Fin 16) (hab : a ≠ b) (wa wb : EReal) (d : Fin 1024) :
    ∑ e : Fin 16, con h (wg e) (wu e) (wd e) ((if a = e then wa else 0) + (if b = e then wb else 0)) d
      = con h (wg a) (wu a) (wd a) wa d + con h (wg b) (wu b) (wd b) wb d := by
  have hz : ∀ e, e ∉ ({a, b} : Finset (Fin 16)) → con h (wg e) (wu e) (wd e) ((if a = e then wa else 0) + (if b = e then wb else 0)) d = 0 := by
    intro e he
    simp only [Finset.mem_insert, Finset.mem_singleton, not_or] at he
    rw [if_neg (Ne.symm he.1), if_neg (Ne.symm he.2), add_zero]
    unfold con
    exact Finset.sum_eq_zero fun f _ => by rw [mul_zero, zero_mul]
  rw [← Finset.sum_subset (Finset.subset_univ {a, b}) (fun e _ he => hz e he), Finset.sum_pair hab,
    if_pos rfl, if_neg (Ne.symm hab), add_zero, if_neg hab, if_pos rfl, zero_add]

end Cert.Ffn
end
-- ==== Proof.FfnPay.lean ====
module

public import proofs.«01_k».proof.Proof.Gen.Kernel2Ideal.Skeleton
public import proofs.«01_k».proof.Proof.FfnMath

@[expose] public section
set_option maxRecDepth 16384
noncomputable section
namespace Cert.Kernel2Ideal.Hand
open Cert.Kernel2Ideal Cert.Kernel2Ideal.Gen Idealize.ShloMosaic Idealize.ShloMosaic.TcCoe Idealize.SL.Sem
open Cert.Ffn

/-- The normalised row. -/
theorem pay5_at (x : Vec Ideal S256x1024 .f32) (g : Vec Ideal S1x1024 .f32) (r : Fin 256) (d : Fin 1024) :
    k0_pay5 x g (ix2 r d) = nrm (fun k => x (ix2 r k)) (fun k => g (ix2 0 k)) d := by
  pointwise [k0_pay5, k0_pay3]
  rfl

/-- The row with its first expert added. -/
theorem pay6_at (x : Vec Ideal S256x1024 .f32) (w : Vec Ideal S256x128 .f32) (g : Vec Ideal S1x1024 .f32)
    (a b : Vec Ideal S1x1024x512 .bf16) (c : Vec Ideal S1x512x1024 .bf16) (r : Fin 256) (d : Fin 1024) :
    k0_pay6 x w g a b c (ix2 r d) = x (ix2 r d) + con (fun k => k0_pay5 x g (ix2 r k)) (fun k f => a (ix3 0 k f)) (fun k f => b (ix3 0 k f))
      (fun f d => c (ix3 0 f d)) (w (ix2 r 2)) d := by
  pointwise [k0_pay6, k0_pay3, k0_pay4]
  rfl

/-- The row with its second expert added, normalised. -/
theorem pay1_at (w : FVec Ideal S256x128 .f32) (h : FVec Ideal S256x1024 .bf16) (y : FVec Ideal S256x1024 .f32)
    (a b : Vec Ideal S1x1024x512 .bf16) (c : Vec Ideal S1x512x1024 .bf16) (g : Vec Ideal S1x1024 .f32) (r : Fin 256) (d : Fin 1024) :
    k0_pay1 w h y a b c g (ix2 r d) = nrm (fun d => y (ix2 r d) + con (fun k => h (ix2 r k)) (fun k f => a (ix3 0 k f)) (fun k f => b (ix3 0 k f))
      (fun f d => c (ix3 0 f d)) (w (ix2 r 3)) d) (fun k => g (ix2 0 k)) d := by
  pointwise [k0_pay1]
  rfl

theorem pay4_at (w : Vec Ideal S256x128 .f32) : k0_pay4 w = w := by
  funext i
  idx_vars i
  pointwise [k0_pay4]

theorem pay2_at (i : S256x1024.Idx) : (k0_pay2 : FVec Ideal S256x1024 .f32) i = 0 := by
  idx_vars i
  pointwise [k0_pay2]

/-- All three together. -/
theorem pays_at (x : Vec Ideal S256x1024 .f32) (w : Vec Ideal S256x128 .f32) (g fg : Vec Ideal S1x1024 .f32)
    (a b a' b' : Vec Ideal S1x1024x512 .bf16) (c c' : Vec Ideal S1x512x1024 .bf16) (r : Fin 256) (d : Fin 1024) :
    k0_pay1 (k0_pay4 w) (k0_pay5 x g) (k0_pay6 x w g a b c) a' b' c' fg (ix2 r d) =
      nrm (fun d => x (ix2 r d) + con (nrm (fun k => x (ix2 r k)) (fun k => g (ix2 0 k))) (fun k f => a (ix3 0 k f)) (fun k f => b (ix3 0 k f)) (fun f d => c (ix3 0 f d)) (w (ix2 r 2)) d
          + con (nrm (fun k => x (ix2 r k)) (fun k => g (ix2 0 k))) (fun k f => a' (ix3 0 k f)) (fun k f => b' (ix3 0 k f)) (fun f d => c' (ix3 0 f d)) (w (ix2 r 3)) d)
        (fun k => fg (ix2 0 k)) d := by
  rw [pay1_at, pay4_at]
  simp only [pay6_at, pay5_at]

theorem pays_of (x : Vec Ideal S256x1024 .f32) (w : Vec Ideal S256x128 .f32) (g fg : Vec Ideal S1x1024 .f32)
    (a b a' b' : Vec Ideal S1x1024x512 .bf16) (c c' : Vec Ideal S1x512x1024 .bf16) (r : Fin 256) (d : Fin 1024)
    (X : Fin 1024 → EReal) (wa wb : EReal) (hx : ∀ k, x (ix2 r k) = X k) (ha : w (ix2 r 2) = wa) (hb : w (ix2 r 3) = wb) :
    k0_pay1 (k0_pay4 w) (k0_pay5 x g) (k0_pay6 x w g a b c) a' b' c' fg (ix2 r d) =
      nrm (fun d => X d + con (nrm X (fun k => g (ix2 0 k))) (fun k f => a (ix3 0 k f)) (fun k f => b (ix3 0 k f)) (fun f d => c (ix3 0 f d)) wa d
          + con (nrm X (fun k => g (ix2 0 k))) (fun k f => a' (ix3 0 k f)) (fun k f => b' (ix3 0 k f)) (fun f d => c' (ix3 0 f d)) wb d)
        (fun k => fg (ix2 0 k)) d := by
  obtain rfl : X = fun k => x (ix2 r k) := funext fun k => (hx k).symm
  subst ha hb
  exact pays_at x w g fg a b a' b' c c' r d

end Cert.Kernel2Ideal.Hand
end
-- ==== Proof.FfnPoint.lean ====
module

public import proofs.«01_k».proof.Proof.FfnOk
public import proofs.«01_k».proof.Proof.FfnPay

@[expose] public section
set_option maxRecDepth 16384
noncomputable section
namespace Cert.Kernel2Ideal.Hand
open Cert.Kernel2Ideal Cert.Kernel2Ideal.Gen Idealize.ShloMosaic Idealize.ShloMosaic.TcCoe Idealize.SL.Sem
open Cert.Ffn

/-- The lane of a joined row that holds a lane of the row itself. -/
def lo (d : Fin 1024) : Fin 1152 := ⟨d.val, by omega⟩

theorem ld_lo (x : Vec Ideal S256x1152 .f32) (r : Fin 256) (d : Fin 1024) :
    (View.ld x (Rect.unit ![0, 0] ![256, 1024] inb_S256x1152_S256x1024_0_0) : Vec Ideal S256x1024 .f32) (ix2 r d) = x (ix2 r (lo d)) := by
  refine congrArg x (funext fun a => Fin.ext ?_)
  fin_cases a
  all_goals simp [lo]

theorem ld_meta (x : Vec Ideal S256x1152 .f32) (r : Fin 256) (d : Fin 128) :
    (View.ld x (Rect.unit ![0, 1024] ![256, 128] inb_S256x1152_S256x128_0_1024) : Vec Ideal S256x128 .f32) (ix2 r d) = x (ix2 r ⟨1024 + d.val, by omega⟩) := by
  refine congrArg x (funext fun a => Fin.ext ?_)
  fin_cases a
  all_goals simp

set_option maxHeartbeats 4000000 in
/-- Past the used tiles the block is zero. -/
theorem outPast_at (c : Dev nD) (i : grid0.Coords) (arg4 : Memref sig .tc .vmem S256x1152 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x512x1024 .bf16) (harg12 : arg12.IsWhole) (arg13 : Memref sig .tc .vmem S256x1024 .f32) (harg13 : arg13.IsWhole)
    (x0 : Vec Ideal S256x1152 .f32) (x1 : Vec Ideal S1x1024 .f32) (x2 : Vec Ideal S1x1024 .f32) (x3 : Vec Ideal S1x1024x512 .bf16) (x4 : Vec Ideal S1x1024x512 .bf16) (x5 : Vec Ideal S1x512x1024 .bf16) (x6 : Vec Ideal S1x1024x512 .bf16) (x7 : Vec Ideal S1x1024x512 .bf16) (x8 : Vec Ideal S1x512x1024 .bf16) (xt0 : TbBuf0 (F := Ideal) c tbM0_0) (xt1 : TbBuf0 (F := Ideal) c tbM0_1) (xt2 : TbBuf0 (F := Ideal) c tbM0_2)
    (h1 : k0_cond1 i (ntOf c xt2) ≠ 1#1) (h2 : k0_cond2 i (ntOf c xt2) = 1#1) (y : S256x1024.Idx) :
    outPast c i arg4 harg4 arg5 harg5 arg6 harg6 arg7 harg7 arg8 harg8 arg9 harg9 arg10 harg10 arg11 harg11 arg12 harg12 arg13 harg13 x0 x1 x2 x3 x4 x5 x6 x7 x8 xt0 xt1 xt2 h1 h2 y = 0 := by
  unfold outPast runPast
  frame_open
  frame_out
  exact pay2_at _

set_option maxHeartbeats 4000000 in
/-- A used tile's block, row by row. -/
theorem outUsed_at (c : Dev nD) (i : grid0.Coords) (arg4 : Memref sig .tc .vmem S256x1152 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x512x1024 .bf16) (harg12 : arg12.IsWhole) (arg13 : Memref sig .tc .vmem S256x1024 .f32) (harg13 : arg13.IsWhole)
    (x0 : Vec Ideal S256x1152 .f32) (x1 : Vec Ideal S1x1024 .f32) (x2 : Vec Ideal S1x1024 .f32) (x3 : Vec Ideal S1x1024x512 .bf16) (x4 : Vec Ideal S1x1024x512 .bf16) (x5 : Vec Ideal S1x512x1024 .bf16) (x6 : Vec Ideal S1x1024x512 .bf16) (x7 : Vec Ideal S1x1024x512 .bf16) (x8 : Vec Ideal S1x512x1024 .bf16) (xt0 : TbBuf0 (F := Ideal) c tbM0_0) (xt1 : TbBuf0 (F := Ideal) c tbM0_1) (xt2 : TbBuf0 (F := Ideal) c tbM0_2)
    (h1 : k0_cond1 i (ntOf c xt2) = 1#1) (h2 : k0_cond2 i (ntOf c xt2) ≠ 1#1) (r : Fin 256) (d : Fin 1024) :
    outUsed c i arg4 harg4 arg5 harg5 arg6 harg6 arg7 harg7 arg8 harg8 arg9 harg9 arg10 harg10 arg11 harg11 arg12 harg12 arg13 harg13 x0 x1 x2 x3 x4 x5 x6 x7 x8 xt0 xt1 xt2 h1 h2 (ix2 r d) =
      nrm (fun d => x0 (ix2 r (lo d)) + con (nrm (fun k => x0 (ix2 r (lo k))) (fun k => x1 (ix2 0 k))) (fun k f => x3 (ix3 0 k f)) (fun k f => x4 (ix3 0 k f)) (fun f d => x5 (ix3 0 f d)) (x0 (ix2 r ⟨1026, by decide⟩)) d
          + con (nrm (fun k => x0 (ix2 r (lo k))) (fun k => x1 (ix2 0 k))) (fun k f => x6 (ix3 0 k f)) (fun k f => x7 (ix3 0 k f)) (fun f d => x8 (ix3 0 f d)) (x0 (ix2 r ⟨1027, by decide⟩)) d)
        (fun k => x2 (ix2 0 k)) d := by
  unfold outUsed runUsed
  frame_open
  frame_out
  exact pays_of _ _ _ _ _ _ _ _ _ _ r d (fun k => x0 (ix2 r (lo k))) _ _ (ld_lo x0 r) (ld_meta x0 r 2) (ld_meta x0 r 3)

end Cert.Kernel2Ideal.Hand
end
-- ==== Proof.FfnBlocks.lean ====
module

public import proofs.«01_k».proof.Proof.FfnPoint

@[expose] public section
set_option maxRecDepth 16384
noncomputable section
namespace Cert.Kernel2Ideal.Hand
open Cert.Kernel2Ideal Cert.Kernel2Ideal.Gen Idealize.ShloMosaic Idealize.ShloMosaic.TcCoe Idealize.SL.Sem
open Cert.Ffn

/-- The join of the five pieces of a row. -/
def joinX (x : FVec Ideal S22528x1024 .f32) (z : FVec Ideal S22528x2 .f32) (wa wb : FVec Ideal S22528x1 .f32) (y : FVec Ideal S22528x124 .f32) : FVec Ideal S22528x1152 .f32 :=
  concatenate S22528x1152 1 [⟨S22528x1024, x⟩, ⟨S22528x2, z⟩, ⟨S22528x1, wa⟩, ⟨S22528x1, wb⟩, ⟨S22528x124, y⟩] concatenates_S22528x1024_S22528x2_S22528x1_S22528x1_S22528x124_S22528x1152_d1

/-- The rows the host prepares: the row, two zeros, its two weights, zeros. -/
def prepX (x : FVec Ideal S22528x1024 .f32) (wa wb : FVec Ideal S22528 .f32) : FVec Ideal S22528x1152 .f32 :=
  joinX x (broadcastInDim S22528x2 ![] bcast_S_S22528x2 (constant S_ .f32 0x00000000#32)) (broadcastInDim S22528x1 ![0] bcast_S22528_S22528x1_0 wa)
    (broadcastInDim S22528x1 ![0] bcast_S22528_S22528x1_0 wb) (broadcastInDim S22528x124 ![] bcast_S_S22528x124 (constant S_ .f32 0x00000000#32))

/-- A gain as one row. -/
def prepG (g : FVec Ideal S1024 .f32) : FVec Ideal S1x1024 .f32 := broadcastInDim S1x1024 ![1] bcast_S1024_S1x1024_1 g

section
variable (m : (ℓ : Loc nD τ sig) → Buf (Elt Ideal) ℓ) (c : Dev nD)
theorem V4_eq : V m c main_v4 = prepX (m ((c : Thread nD τ).loc main_arg0)) (m ((c : Thread nD τ).loc main_arg1)) (m ((c : Thread nD τ).loc main_arg2)) := by
  unfold V
  simp only [hostOps0, StableHlo.after_cons, StableHlo.after_nil]
  rw [StableHlo.unary_result_ne _ _ _ _ (by decide), StableHlo.unary_result_ne _ _ _ _ (by decide), StableHlo.unary_result_ne _ _ _ _ (by decide),
    StableHlo.unary_result_ne _ _ _ _ (by decide), StableHlo.unary_result_ne _ _ _ _ (by decide), StableHlo.nary_result]
  rotate_left
  all_goals first | decide | skip
  unfold prepX
  show joinX _ _ _ _ _ = joinX _ _ _ _ _
  refine congr (congr (congr (congr (congrArg joinX ?_) ?_) ?_) ?_) ?_
  all_goals dsimp only [Matrix.cons_val]
  all_goals first | (after_results_simp; done) | (after_results_simp; rfl) | trace_state
theorem V5_eq : V m c main_v5 = (truncf .bf16 (m ((c : Thread nD τ).loc main_arg8) : FVec Ideal S16x1024x512 .f32) bitsLt_bf16_f32 : FVec Ideal S16x1024x512 .bf16) := by
  entry_read
  rfl
theorem V6_eq : V m c main_v6 = (truncf .bf16 (m ((c : Thread nD τ).loc main_arg9) : FVec Ideal S16x1024x512 .f32) bitsLt_bf16_f32 : FVec Ideal S16x1024x512 .bf16) := by
  entry_read
  rfl
theorem V7_eq : V m c main_v7 = (truncf .bf16 (m ((c : Thread nD τ).loc main_arg10) : FVec Ideal S16x512x1024 .f32) bitsLt_bf16_f32 : FVec Ideal S16x512x1024 .bf16) := by
  entry_read
  rfl
theorem V8_eq : V m c main_v8 = prepG (m ((c : Thread nD τ).loc main_arg6)) := by
  entry_read
  rfl
theorem V9_eq : V m c main_v9 = prepG (m ((c : Thread nD τ).loc main_arg7)) := by
  entry_read
  rfl
end

theorem prepX_lo (x wa wb) (t : Fin 22528) (d : Fin 1024) : prepX x wa wb (ix2 t (lo d)) = x (ix2 t d) := by
  unfold lo
  pointwise [prepX, joinX]
theorem prepX_a (x wa wb) (t : Fin 22528) : prepX x wa wb (ix2 t ⟨1026, by decide⟩) = wa (ix1 t) := by
  pointwise [prepX, joinX]
theorem prepX_b (x wa wb) (t : Fin 22528) : prepX x wa wb (ix2 t ⟨1027, by decide⟩) = wb (ix1 t) := by
  pointwise [prepX, joinX]
theorem prepG_at (g) (d : Fin 1024) : prepG g (ix2 0 d) = g (ix1 d) := by
  pointwise [prepG]

theorem lt88 (a : (pcfg0 (F := Ideal)).Adm) (t : Fin (cfg0 a).N) : t.val < 88 := lt_of_lt_of_eq t.isLt (by decide : grid0.N = 88)

theorem coord_eq : ∀ t : Fin grid0.N, (grid0.coords t 0).val = t.val := by decide +kernel

/-- The number of used tiles. -/
def nW (a : (pcfg0 (F := Ideal)).Adm) : BitVec 32 := a.1.at 2 (Rect.unit (s := S1) ![0] S1.size inb_S1_S1_0) numel1_S1

theorem nW_eq (a : (pcfg0 (F := Ideal)).Adm) : nW a = tN a.1 (ix1 0) := by
  refine congrArg (tN a.1) (funext fun k => Fin.ext ?_)
  fin_cases k
  rfl

theorem idx0 (a : (pcfg0 (F := Ideal)).Adm) (t : Fin (cfg0 a).N) :
    ((cfg0 a).win 0).index t = ![Cert.FfnPre.rowOf (nW a) (grid0.coords t 0).val, 0] := rfl
theorem idx9 (a : (pcfg0 (F := Ideal)).Adm) (t : Fin (cfg0 a).N) : ((cfg0 a).win 9).index t = ![t.val, 0] := by
  exact (by decide +kernel : ∀ t : Fin grid0.N, cc0_transform_9 (grid0.coords t) = ![t.val, 0]) t

/-! ## The blocks -/

section
variable (a : (pcfg0 (F := Ideal)).Adm) (t : Fin (cfg0 a).N)

/-- The first expert's number at point `t`. -/
def eA : BitVec 32 := a.1.at 0 (Rect.unit (s := S88) ![(Scalar.indexCast (BitVec.ofNat 32 (grid0.coords t 0).val) : Index).toNat] S1.size (k0_off1_inb (grid0.coords t))) numel1_S1
/-- The second expert's number at point `t`. -/
def eB : BitVec 32 := a.1.at 1 (Rect.unit (s := S88) ![(Scalar.indexCast (BitVec.ofNat 32 (grid0.coords t 0).val) : Index).toNat] S1.size (k0_off1_inb (grid0.coords t))) numel1_S1

theorem idx1 : ((cfg0 a).win 1).index t = ![0, 0] := rfl
theorem idx2 : ((cfg0 a).win 2).index t = ![0, 0] := rfl
theorem idx3 : ((cfg0 a).win 3).index t = ![(eA a t).toNat, 0, 0] := rfl
theorem idx4 : ((cfg0 a).win 4).index t = ![(eA a t).toNat, 0, 0] := rfl
theorem idx5 : ((cfg0 a).win 5).index t = ![(eA a t).toNat, 0, 0] := rfl
theorem idx6 : ((cfg0 a).win 6).index t = ![(eB a t).toNat, 0, 0] := rfl
theorem idx7 : ((cfg0 a).win 7).index t = ![(eB a t).toNat, 0, 0] := rfl
theorem idx8 : ((cfg0 a).win 8).index t = ![(eB a t).toNat, 0, 0] := rfl

theorem eA_eq : eA a t = tA a.1 (ix1 ⟨t.val, lt88 a t⟩) := by
  refine congrArg (tA a.1) (funext fun k => Fin.ext ?_)
  fin_cases k
  have := lt88 a t
  show (BitVec.ofNat 32 (grid0.coords t 0).val).toNat + 1 * 0 = t.val
  rw [coord_eq t, BitVec.toNat_ofNat]
  omega
theorem eB_eq : eB a t = tB a.1 (ix1 ⟨t.val, lt88 a t⟩) := by
  refine congrArg (tB a.1) (funext fun k => Fin.ext ?_)
  fin_cases k
  have := lt88 a t
  show (BitVec.ofNat 32 (grid0.coords t 0).val).toNat + 1 * 0 = t.val
  rw [coord_eq t, BitVec.toNat_ofNat]
  omega

/-- The rows' block. -/
theorem read0 (X : S22528x1152.Idx → EReal) (r : Fin 256) (l : Fin 1152) (R : Fin 22528)
    (hR : R.val = 256 * Cert.FfnPre.rowOf (nW a) (grid0.coords t 0).val + r.val) :
    (((cfg0 a).win 0).blk t).view.read (Elt Ideal) X (ix2 r l) = X (ix2 R l) := by
  refine congrArg X (funext fun k => Fin.ext ?_)
  fin_cases k
  all_goals (blk_simp [idx0 a t]; try omega)
  all_goals simp
  all_goals omega

/-- Row `r` of a used tile's block is row `256 t + r` of the array. -/
theorem read0_used (X : S22528x1152.Idx → EReal) (r : Fin 256) (l : Fin 1152) (R : Fin 22528) (hR : R.val = 256 * t.val + r.val)
    (hu : (BitVec.ofNat 32 t.val).slt (nW a) = true) :
    (((cfg0 a).win 0).blk t).view.read (Elt Ideal) X (ix2 r l) = X (ix2 R l) := by
  refine read0 a t X r l R ?_
  rw [coord_eq t, Cert.FfnPre.rowOf_eq _ _ (lt88 a t) hu, hR]

/-- A gain's block. -/
theorem read1 (X : S1x1024.Idx → EReal) (d : Fin 1024) : (((cfg0 a).win 1).blk t).view.read (Elt Ideal) X (ix2 0 d) = X (ix2 0 d) := by
  refine congrArg X (funext fun k => Fin.ext ?_)
  fin_cases k
  all_goals (blk_simp [idx1 a t]; try omega)
  all_goals simp
theorem read2 (X : S1x1024.Idx → EReal) (d : Fin 1024) : (((cfg0 a).win 2).blk t).view.read (Elt Ideal) X (ix2 0 d) = X (ix2 0 d) := by
  refine congrArg X (funext fun k => Fin.ext ?_)
  fin_cases k
  all_goals (blk_simp [idx2 a t]; try omega)
  all_goals simp
theorem read3 (X : S16x1024x512.Idx → EReal) (k : Fin 1024) (f : Fin 512) (e : Fin 16) (he : e.val = (eA a t).toNat) :
    (((cfg0 a).win 3).blk t).view.read (Elt Ideal) X (ix3 0 k f) = X (ix3 e k f) := by
  refine congrArg X (funext fun k => Fin.ext ?_)
  fin_cases k
  all_goals (blk_simp [idx3 a t]; try omega)
  all_goals simp
  all_goals omega
theorem read4 (X : S16x1024x512.Idx → EReal) (k : Fin 1024) (f : Fin 512) (e : Fin 16) (he : e.val = (eA a t).toNat) :
    (((cfg0 a).win 4).blk t).view.read (Elt Ideal) X (ix3 0 k f) = X (ix3 e k f) := by
  refine congrArg X (funext fun k => Fin.ext ?_)
  fin_cases k
  all_goals (blk_simp [idx4 a t]; try omega)
  all_goals simp
  all_goals omega
theorem read5 (X : S16x512x1024.Idx → EReal) (k : Fin 512) (f : Fin 1024) (e : Fin 16) (he : e.val = (eA a t).toNat) :
    (((cfg0 a).win 5).blk t).view.read (Elt Ideal) X (ix3 0 k f) = X (ix3 e k f) := by
  refine congrArg X (funext fun k => Fin.ext ?_)
  fin_cases k
  all_goals (blk_simp [idx5 a t]; try omega)
  all_goals simp
  all_goals omega
theorem read6 (X : S16x1024x512.Idx → EReal) (k : Fin 1024) (f : Fin 512) (e : Fin 16) (he : e.val = (eB a t).toNat) :
    (((cfg0 a).win 6).blk t).view.read (Elt Ideal) X (ix3 0 k f) = X (ix3 e k f) := by
  refine congrArg X (funext fun k => Fin.ext ?_)
  fin_cases k
  all_goals (blk_simp [idx6 a t]; try omega)
  all_goals simp
  all_goals omega
theorem read7 (X : S16x1024x512.Idx → EReal) (k : Fin 1024) (f : Fin 512) (e : Fin 16) (he : e.val = (eB a t).toNat) :
    (((cfg0 a).win 7).blk t).view.read (Elt Ideal) X (ix3 0 k f) = X (ix3 e k f) := by
  refine congrArg X (funext fun k => Fin.ext ?_)
  fin_cases k
  all_goals (blk_simp [idx7 a t]; try omega)
  all_goals simp
  all_goals omega
theorem read8 (X : S16x512x1024.Idx → EReal) (k : Fin 512) (f : Fin 1024) (e : Fin 16) (he : e.val = (eB a t).toNat) :
    (((cfg0 a).win 8).blk t).view.read (Elt Ideal) X (ix3 0 k f) = X (ix3 e k f) := by
  refine congrArg X (funext fun k => Fin.ext ?_)
  fin_cases k
  all_goals (blk_simp [idx8 a t]; try omega)
  all_goals simp
  all_goals omega

end

end Cert.Kernel2Ideal.Hand
end
-- ==== Proof.FfnFinal.lean ====
module

public import proofs.«01_k».proof.Proof.FfnBlocks

@[expose] public section
set_option maxRecDepth 16384
noncomputable section
namespace Cert.Kernel2Ideal.Hand
open Cert.Kernel2Ideal Cert.Kernel2Ideal.Gen Idealize.ShloMosaic Idealize.ShloMosaic.TcCoe Idealize.SL.Sem
open Cert.Ffn

/-- The kernel's result as a function of its arguments. -/
def kOut (x : FVec Ideal S22528x1024 .f32) (wa wb : FVec Ideal S22528 .f32) (ea eb : IVec S88 32) (n : IVec S1 32) (g fg : FVec Ideal S1024 .f32)
    (wg wu : FVec Ideal S16x1024x512 .f32) (wd : FVec Ideal S16x512x1024 .f32) : FVec Ideal S22528x1024 .f32 := fun i =>
  out (fun t k => x (ix2 t k)) (fun t => wa (ix1 t)) (fun t => wb (ix1 t)) (fun i => ea (ix1 i)) (fun i => eb (ix1 i))
      (n (ix1 0)) (fun k => g (ix1 k)) (fun k => fg (ix1 k)) (fun e k f => wg (ix3 e k f)) (fun e k f => wu (ix3 e k f)) (fun e f d => wd (ix3 e f d)) (i 0) (i 1)

theorem cond1_iff (i : grid0.Coords) (v : BitVec 32) : k0_cond1 i v = 1#1 ↔ (BitVec.ofNat 32 (i 0).val).slt v = true := by
  show Scalar.cmpi .ne (Scalar.extui (BitVec.ofBool ((BitVec.ofNat 32 (i 0).val).slt v)) : BitVec 32) 0#32 = 1#1 ↔ _
  generalize (BitVec.ofNat 32 (i 0).val).slt v = p
  revert p
  decide

theorem nt_eq (m : (ℓ : Loc nD τ sig) → Buf (Elt Ideal) ℓ) (hO : Ok m) (c : Dev nD) : ntOf c (tbl m 2) = nW (adm m hO) := rfl

theorem two_of (x0 : Vec Ideal S256x1152 .f32) (x1 x2 : Vec Ideal S1x1024 .f32) (x3 x4 : Vec Ideal S1x1024x512 .bf16) (x5 : Vec Ideal S1x512x1024 .bf16)
    (x6 x7 : Vec Ideal S1x1024x512 .bf16) (x8 : Vec Ideal S1x512x1024 .bf16) (r : Fin 256) (d : Fin 1024)
    (X G FG : Fin 1024 → EReal) (WG WU : Fin 16 → Fin 1024 → Fin 512 → EReal) (WD : Fin 16 → Fin 512 → Fin 1024 → EReal) (a b : Fin 16) (wa wb : EReal)
    (h0 : ∀ k, x0 (ix2 r (lo k)) = X k) (ha : x0 (ix2 r ⟨1026, by decide⟩) = wa) (hb : x0 (ix2 r ⟨1027, by decide⟩) = wb)
    (h1 : ∀ k, x1 (ix2 0 k) = G k) (h2 : ∀ k, x2 (ix2 0 k) = FG k)
    (h3 : ∀ k f, x3 (ix3 0 k f) = WG a k f) (h4 : ∀ k f, x4 (ix3 0 k f) = WU a k f) (h5 : ∀ k f, x5 (ix3 0 k f) = WD a k f)
    (h6 : ∀ k f, x6 (ix3 0 k f) = WG b k f) (h7 : ∀ k f, x7 (ix3 0 k f) = WU b k f) (h8 : ∀ k f, x8 (ix3 0 k f) = WD b k f) :
    nrm (fun d => x0 (ix2 r (lo d)) + con (nrm (fun k => x0 (ix2 r (lo k))) (fun k => x1 (ix2 0 k))) (fun k f => x3 (ix3 0 k f)) (fun k f => x4 (ix3 0 k f)) (fun f d => x5 (ix3 0 f d)) (x0 (ix2 r ⟨1026, by decide⟩)) d
          + con (nrm (fun k => x0 (ix2 r (lo k))) (fun k => x1 (ix2 0 k))) (fun k f => x6 (ix3 0 k f)) (fun k f => x7 (ix3 0 k f)) (fun f d => x8 (ix3 0 f d)) (x0 (ix2 r ⟨1027, by decide⟩)) d)
        (fun k => x2 (ix2 0 k)) d = nrm (two X (nrm X G) WG WU WD a b wa wb) FG d := by
  obtain rfl : X = fun k => x0 (ix2 r (lo k)) := funext fun k => (h0 k).symm
  obtain rfl : G = fun k => x1 (ix2 0 k) := funext fun k => (h1 k).symm
  obtain rfl : FG = fun k => x2 (ix2 0 k) := funext fun k => (h2 k).symm
  subst ha hb
  have e3 : WG a = fun k f => x3 (ix3 0 k f) := funext fun k => funext fun f => (h3 k f).symm
  have e4 : WU a = fun k f => x4 (ix3 0 k f) := funext fun k => funext fun f => (h4 k f).symm
  have e5 : WD a = fun k f => x5 (ix3 0 k f) := funext fun k => funext fun f => (h5 k f).symm
  have e6 : WG b = fun k f => x6 (ix3 0 k f) := funext fun k => funext fun f => (h6 k f).symm
  have e7 : WU b = fun k f => x7 (ix3 0 k f) := funext fun k => funext fun f => (h7 k f).symm
  have e8 : WD b = fun k f => x8 (ix3 0 k f) := funext fun k => funext fun f => (h8 k f).symm
  unfold two
  rw [e3, e4, e5, e6, e7, e8]

section
variable (m : (ℓ : Loc nD τ sig) → Buf (Elt Ideal) ℓ) (hO : Ok m) (c : Dev nD) (t : Fin (cfgM m hO).N)

/-- The first expert of a tile, read off the launched table. -/
theorem eA_m : eA (adm m hO) t = m ((c : Thread nD τ).loc main_arg3) (ix1 ⟨t.val, lt88 (adm m hO) t⟩) := by
  obtain rfl : c = 0 := Subsingleton.elim _ _
  rw [eA_eq, ← tA_tbl m]
theorem eB_m : eB (adm m hO) t = m ((c : Thread nD τ).loc main_arg4) (ix1 ⟨t.val, lt88 (adm m hO) t⟩) := by
  obtain rfl : c = 0 := Subsingleton.elim _ _
  rw [eB_eq, ← tB_tbl m]
theorem nW_m : nW (adm m hO) = m ((c : Thread nD τ).loc main_arg5) (ix1 0) := by
  obtain rfl : c = 0 := Subsingleton.elim _ _
  rw [nW_eq, ← tN_tbl m]

/-- The kernel's result on a core, from the memory it starts from. -/
def kRes : FVec Ideal S22528x1024 .f32 :=
  kOut (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

/-- Every point's block. -/
theorem point (hA : ∀ i, (m ((c : Thread nD τ).loc main_arg3) i : BitVec 32).toNat < 16) (hB : ∀ i, (m ((c : Thread nD τ).loc main_arg4) i : BitVec 32).toNat < 16)
    (r : Fin 256) (d : Fin 1024) (R : Fin 22528) (hR : R.val = 256 * t.val + r.val) :
    outsAt0 m hO c t (ix2 r d) = kRes m c (ix2 R d) := by
  have h88 := lt88 (adm m hO) t
  have hq : R.val / 256 = t.val := by omega
  have htile : tile R = ⟨t.val, h88⟩ := Fin.ext hq
  unfold kRes kOut out outsAt0
  by_cases hu : (BitVec.ofNat 32 t.val).slt (nW (adm m hO)) = true
  · have hc : k0_cond1 (grid0.coords t) (ntOf c (tbl m 2)) = 1#1 := by rw [cond1_iff, nt_eq m hO c, coord_eq t]; exact hu
    rw [dif_pos hc]
    refine (outUsed_at c _ _ _ _ _ _ _ _ _ _ _ _ _ _ _ _ _ _ _ _ _ _ _ _ _ _ _ _ _ _ _ _ _ _ _ r d).trans ?_
    refine Eq.trans ?_ (if_pos (by show (BitVec.ofNat 32 (R.val / 256)).slt _ = true; rw [hq, ← nW_m m hO c]; exact hu)).symm
    have hx : ∀ l : Fin 1152, iblk m hO c 0 t (ix2 r l) = prepX (m ((c : Thread nD τ).loc main_arg0)) (m ((c : Thread nD τ).loc main_arg1)) (m ((c : Thread nD τ).loc main_arg2)) (ix2 R l) :=
      fun l => (read0_used (adm m hO) t (V m c main_v4) r l R hR hu).trans (congrFun (V4_eq m c) _)
    have ea : (ex (m ((c : Thread nD τ).loc main_arg3) (ix1 (tile R)))).val = (eA (adm m hO) t).toNat := by
      rw [eA_m m hO c t, htile]; exact Nat.mod_eq_of_lt (hA _)
    have eb : (ex (m ((c : Thread nD τ).loc main_arg4) (ix1 (tile R)))).val = (eB (adm m hO) t).toNat := by
      rw [eB_m m hO c t, htile]; exact Nat.mod_eq_of_lt (hB _)
    refine two_of _ _ _ _ _ _ _ _ _ r d _ _ _ _ _ _ _ _ _ _ ?_ ?_ ?_ ?_ ?_ ?_ ?_ ?_ ?_ ?_ ?_
    · exact fun k => (hx _).trans (prepX_lo _ _ _ R k)
    · exact (hx _).trans (prepX_a _ _ _ R)
    · exact (hx _).trans (prepX_b _ _ _ R)
    · exact fun k => (read1 (adm m hO) t (V m c main_v8) k).trans ((congrFun (V8_eq m c) _).trans (prepG_at _ k))
    · exact fun k => (read2 (adm m hO) t (V m c main_v9) k).trans ((congrFun (V9_eq m c) _).trans (prepG_at _ k))
    · exact fun k f => (read3 (adm m hO) t (V m c main_v5) k f _ ea).trans (congrFun (V5_eq m c) _)
    · exact fun k f => (read4 (adm m hO) t (V m c main_v6) k f _ ea).trans (congrFun (V6_eq m c) _)
    · exact fun k f => (read5 (adm m hO) t (V m c main_v7) k f _ ea).trans (congrFun (V7_eq m c) _)
    · exact fun k f => (read6 (adm m hO) t (V m c main_v5) k f _ eb).trans (congrFun (V5_eq m c) _)
    · exact fun k f => (read7 (adm m hO) t (V m c main_v6) k f _ eb).trans (congrFun (V6_eq m c) _)
    · exact fun k f => (read8 (adm m hO) t (V m c main_v7) k f _ eb).trans (congrFun (V7_eq m c) _)
  · have hc : ¬ k0_cond1 (grid0.coords t) (ntOf c (tbl m 2)) = 1#1 := by rw [cond1_iff, nt_eq m hO c, coord_eq t]; exact hu
    rw [dif_neg hc]
    refine (outPast_at c _ _ _ _ _ _ _ _ _ _ _ _ _ _ _ _ _ _ _ _ _ _ _ _ _ _ _ _ _ _ _ _ _ _ _ _).trans ?_
    exact (if_neg (by show ¬ (BitVec.ofNat 32 (R.val / 256)).slt _ = true; rw [hq, ← nW_m m hO c]; exact hu)).symm

theorem emb9 (a : (pcfg0 (F := Ideal)).Adm) (t : Fin (cfg0 a).N) (r : Fin 256) (d : Fin 1024) (R : Fin 22528) (hR : R.val = 256 * t.val + r.val) :
    (((cfg0 a).win 9).blk t).view.emb (ix2 r d) = (ix2 R d : S22528x1024.Idx) := by
  refine funext fun k => Fin.ext ?_
  fin_cases k
  all_goals (blk_simp [idx9 a t]; try omega)
  all_goals simp
  all_goals omega

theorem eta2 {n k : ℕ} (y : (⟨2, ![n, k]⟩ : Shape).Idx) : y = ix2 (y 0) (y 1) := by
  funext k
  fin_cases k <;> rfl

theorem ex2 (y : S256x1024.Idx) : ∃ (r : Fin 256) (d : Fin 1024), y = ix2 r d := ⟨y 0, y 1, eta2 y⟩

theorem cover9 (a : (pcfg0 (F := Ideal)).Adm) (i : S22528x1024.Idx) : ∃ t : Fin (cfg0 a).N, ((cfg0 a).win 9).flush t = true ∧ i ∈ (((cfg0 a).win 9).blk t).view.set := by
  have h0 : (i 0).val < 22528 := (i 0).isLt
  have hN : (cfg0 a).N = 88 := (by decide : grid0.N = 88)
  have ht : (i 0).val / 256 < (cfg0 a).N := by rw [hN]; omega
  refine ⟨⟨(i 0).val / 256, ht⟩, flush0_9 a _, ?_⟩
  have e := (emb9 a ⟨(i 0).val / 256, ht⟩ ⟨(i 0).val % 256, by omega⟩ (i 1) (i 0) (by dsimp only; omega)).trans (eta2 i).symm
  have h := (((cfg0 a).win 9).blk ⟨(i 0).val / 256, ht⟩).view.emb_mem_set (ix2 ⟨(i 0).val % 256, by omega⟩ (i 1))
  rw [e] at h
  exact h

/-- The array the output's blocks leave. -/
theorem final (hA : ∀ i, (m ((c : Thread nD τ).loc main_arg3) i : BitVec 32).toNat < 16) (hB : ∀ i, (m ((c : Thread nD τ).loc main_arg4) i : BitVec 32).toNat < 16) :
    (dats m hO 0 c).arrAt 9 (cfgM m hO).N = kRes m c := by
  refine (dats m hO 0 c).arrAt_eq_of_emb 9 _ (fun t hf y => ?_) (cover9 (adm m hO))
  blk_simp
  rw [after0_9]
  have ht := lt88 (adm m hO) t
  obtain ⟨r, d, rfl⟩ : ∃ (r : Fin 256) (d : Fin 1024), y = ix2 r d := ex2 y
  exact (point m hO c t hA hB r d ⟨256 * t.val + r.val, by omega⟩ rfl).trans (congrArg (kRes m c) (emb9 (adm m hO) t r d ⟨256 * t.val + r.val, by omega⟩ rfl).symm)

end

end Cert.Kernel2Ideal.Hand
end
-- ==== Proof.FfnRef.lean ====
module

public import proofs.«01_k».proof.Proof.Gen.Reference2Ideal.Run
public import proofs.«01_k».proof.Proof.FfnMath

@[expose] public section
set_option maxRecDepth 16384
noncomputable section
namespace Cert.Reference2Ideal.Ffn
open Cert.Reference2Ideal Cert.Reference2Ideal.Gen Idealize.ShloMosaic Idealize.ShloMosaic.TcCoe Idealize.SL.Sem
open Cert.Ffn

/-- Rows normalised by their root mean square. -/
def refN (x : FVec Ideal S22528x1024 .f32) (g : FVec Ideal S1024 .f32) : FVec Ideal S22528x1024 .f32 :=
  mulf (mulf x (broadcastInDim S22528x1024 ![0, 1] bcast_S22528x1_S22528x1024_0_1 (Host.rsqrt (addf (Host.divf (broadcastInDim S22528x1 ![0] bcast_S22528_S22528x1_0 (Host.reduceAdd (mulf x x) (constant S_ .f32 0x00000000#32) reducesTo_S22528x1024_S22528_d1 h_S_)) (broadcastInDim S22528x1 ![] bcast_S_S22528x1 (constant S_ .f32 0x44800000#32))) (broadcastInDim S22528x1 ![] bcast_S_S22528x1 (constant S_ .f32 0x358637BD#32)))))) (broadcastInDim S22528x1024 ![0, 1] bcast_S1x1024_S22528x1024_0_1 (broadcastInDim S1x1024 ![1] bcast_S1024_S1x1024_1 g))

/-- A projection of every row by every expert. -/
def refD (h : FVec Ideal S22528x1024 .f32) (w : FVec Ideal S16x1024x512 .f32) : FVec Ideal S22528x16x512 .f32 :=
  Host.dotGeneral dot_S22528x1024_S16x1024x512_S22528x16x512_1_1_0_02_n_n none h w

/-- The gated unit's first factor. -/
def refS (v : FVec Ideal S22528x16x512 .f32) : FVec Ideal S22528x16x512 .f32 :=
  mulf v (Host.divf (broadcastInDim S22528x16x512 ![] bcast_S_S22528x16x512 (constant S_ .f32 0x3F800000#32)) (addf (broadcastInDim S22528x16x512 ![] bcast_S_S22528x16x512 (constant S_ .f32 0x3F800000#32)) (Host.exp (Host.negf v))))

/-- One slot's routing weight of every row against every expert. -/
def refG (t : IVec S88 32) (w : FVec Ideal S22528 .f32) : FVec Ideal S22528x16 .f32 :=
  select (cmpi .eq (broadcastInDim S22528x16 ![0, 1] bcast_S22528x1_S22528x16_0_1 (broadcastInDim S22528x1 ![0] bcast_S22528_S22528x1_0 (shapeCast _ (broadcastInDim S88x256 ![0] bcast_S88_S88x256_0 t) shapeCasts_S88x256_S22528))) (broadcastInDim S22528x16 ![0, 1] bcast_S1x16_S22528x16_0_1 (broadcastInDim S1x16 ![1] bcast_S16_S1x16_1 (iotaInDim S16 32 0)))) (broadcastInDim S22528x16 ![0, 1] bcast_S22528x1_S22528x16_0_1 (broadcastInDim S22528x1 ![0] bcast_S22528_S22528x1_0 w)) (broadcastInDim S22528x16 ![] bcast_S_S22528x16 (id (constant S_ .f32 0x00000000#32)))

/-- The rows with every expert added. -/
def refY (x : FVec Ideal S22528x1024 .f32) (h : FVec Ideal S22528x1024 .f32) (gate : FVec Ideal S22528x16 .f32)
    (wg wu : FVec Ideal S16x1024x512 .f32) (wd : FVec Ideal S16x512x1024 .f32) : FVec Ideal S22528x1024 .f32 :=
  addf x (Host.dotGeneral dot_S22528x16x512_S16x512x1024_S22528x1024_12_01_0_2_n_n none (mulf (mulf (refS (refD h wg)) (refD h wu)) (broadcastInDim S22528x16x512 ![0, 1, 2] bcast_S22528x16x1_S22528x16x512_0_1_2 (broadcastInDim S22528x16x1 ![0, 1] bcast_S22528x16_S22528x16x1_0_1 gate))) wd)

/-- The rows of unused tiles set to zero. -/
def refZ (n : IVec S1 32) (y : FVec Ideal S22528x1024 .f32) : FVec Ideal S22528x1024 .f32 :=
  select (broadcastInDim S22528x1024 ![0, 1] bcast_S22528x1_S22528x1024_0_1 (broadcastInDim S22528x1 ![0] bcast_S22528_S22528x1_0 (cmpi .slt (shapeCast _ (broadcastInDim S88x256 ![0] bcast_S88_S88x256_0 (iotaInDim S88 32 0)) shapeCasts_S88x256_S22528) (broadcastInDim S22528 ![] bcast_S_S22528 (shapeCast _ n shapeCasts_S1_S_))))) y (broadcastInDim S22528x1024 ![] bcast_S_S22528x1024 (id (constant S_ .f32 0x00000000#32)))

/-- The reference's result. -/
def refO (x : FVec Ideal S22528x1024 .f32) (wa wb : FVec Ideal S22528 .f32) (ea eb : IVec S88 32) (n : IVec S1 32) (g fg : FVec Ideal S1024 .f32)
    (wg wu : FVec Ideal S16x1024x512 .f32) (wd : FVec Ideal S16x512x1024 .f32) : FVec Ideal S22528x1024 .f32 :=
  refZ n (refN (refY x (refN x g) (addf (refG ea wa) (refG eb wb)) wg wu wd) fg)

theorem refN_at (x g) (t : Fin 22528) (d : Fin 1024) : refN x g (ix2 t d) = nrm (fun k => x (ix2 t k)) (fun k => g (ix1 k)) d := by
  pointwise [refN]
  rfl

theorem refD_at (h w) (t : Fin 22528) (e : Fin 16) (f : Fin 512) : refD h w (ix3 t e f) = ∑ k : Fin 1024, h (ix2 t k) * w (ix3 e k f) := by
  pointwise [refD]

theorem refS_at (v) (t : Fin 22528) (e : Fin 16) (f : Fin 512) : refS v (ix3 t e f) = v (ix3 t e f) * Ideal.logistic (v (ix3 t e f)) := by
  pointwise [refS]
  rfl

theorem zero_cst : (id (constant S_ FTy.f32 0#32 : FVec Ideal S_ .f32) : FVec Ideal S_ .f32) ix0 = (0 : EReal) := by
  show Ideal.ofBits FTy.f32 0#32 = 0
  simp [Ideal.ofBits, Ideal.ieee]

theorem select_true {α : Type} (p : Bool) (a b : α) : Scalar.select (BitVec.ofBool p) a b = if p = true then a else b := by
  cases p <;> rfl

theorem refG_at (ea w) (t : Fin 22528) (e : Fin 16) (h : (ea (ix1 (tile t))).toNat < 16) :
    refG ea w (ix2 t e) = if ex (ea (ix1 (tile t))) = e then (w (ix1 t) : EReal) else 0 := by
  pointwise [refG]
  rw [zero_cst]
  refine (select_true (ea (ix1 (tile t)) == BitVec.ofNat 32 e.val) _ _).trans (if_congr ?_ rfl rfl)
  rw [beq_iff_eq, Fin.ext_iff, ← BitVec.toNat_inj, BitVec.toNat_ofNat]
  have := e.isLt
  unfold ex
  dsimp only
  omega

theorem refZ_at (n y) (t : Fin 22528) (d : Fin 1024) :
    refZ n y (ix2 t d) = if (BitVec.ofNat 32 (t.val / 256)).slt (n (ix1 0)) = true then (y (ix2 t d) : EReal) else 0 := by
  pointwise [refZ]
  rw [zero_cst]
  exact select_true _ _ _

theorem refY_at (x h gate wg wu wd) (t : Fin 22528) (d : Fin 1024) :
    refY x h gate wg wu wd (ix2 t d) = x (ix2 t d) + ∑ e : Fin 16, con (fun k => h (ix2 t k)) (fun k f => wg (ix3 e k f)) (fun k f => wu (ix3 e k f))
      (fun f d => wd (ix3 e f d)) (gate (ix2 t e)) d := by
  pointwise [refY]
  simp only [refS_at, refD_at]
  rfl

/-- The reference's result, at coordinates. -/
theorem refO_at (x wa wb ea eb n g fg wg wu wd) (t : Fin 22528) (d : Fin 1024) (hA : ∀ i, (ea i).toNat < 16) (hB : ∀ i, (eb i).toNat < 16) (hne : ∀ i, ea i ≠ eb i) :
    refO x wa wb ea eb n g fg wg wu wd (ix2 t d) = out (fun t k => x (ix2 t k)) (fun t => wa (ix1 t)) (fun t => wb (ix1 t)) (fun i => ea (ix1 i)) (fun i => eb (ix1 i))
      (n (ix1 0)) (fun k => g (ix1 k)) (fun k => fg (ix1 k)) (fun e k f => wg (ix3 e k f)) (fun e k f => wu (ix3 e k f)) (fun e f d => wd (ix3 e f d)) t d := by
  unfold refO out
  rw [refZ_at, refN_at]
  refine if_congr Iff.rfl ?_ rfl
  congr 1
  funext d
  have hab : ex (ea (ix1 (tile t))) ≠ ex (eb (ix1 (tile t))) := by
    intro h
    refine hne (ix1 (tile t)) (BitVec.eq_of_toNat_eq ?_)
    have h' := congrArg Fin.val h
    have h1 := hA (ix1 (tile t))
    have h2 := hB (ix1 (tile t))
    unfold ex at h'
    dsimp only at h'
    omega
  rw [refY_at, two, add_assoc]
  refine congrArg₂ (· + ·) rfl (Eq.trans ?_ (all_experts _ (fun e k f => wg (ix3 e k f)) (fun e k f => wu (ix3 e k f)) (fun e f d => wd (ix3 e f d)) _ _ hab _ _ d))
  simp only [refN_at]
  refine Finset.sum_congr rfl fun e _ => ?_
  congr 1
  exact congrArg₂ (· + ·) (refG_at ea wa t e (hA _)) (refG_at eb wb t e (hB _))

theorem res_eq (m : (ℓ : Loc nD τ sig) → Buf (Elt Ideal) ℓ) (c : Dev nD) : Cert.Reference2Ideal.Value.res_main_v62 m c = refO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := rfl

end Cert.Reference2Ideal.Ffn
end
-- ==== Proof.FfnEq.lean ====
module

public import proofs.«01_k».proof.Proof.FfnFinal
public import proofs.«01_k».proof.Proof.FfnRef
public import proofs.«01_k».proof.Defs
public import Idealize.ShloMosaic.Adequacy

@[expose] public section
set_option maxRecDepth 16384
noncomputable section
namespace Cert.FfnEq
open Idealize.ShloMosaic Idealize.ShloMosaic.TcCoe Idealize.SL.Sem

/-- The two programs' results are one function of the arguments. -/
theorem value_eq (x wa wb ea eb n g fg wg wu wd) (hA : ∀ i, (ea i : BitVec 32).toNat < 16) (hB : ∀ i, (eb i : BitVec 32).toNat < 16) (hne : ∀ i, ea i ≠ eb i) :
    Cert.Reference2Ideal.Ffn.refO x wa wb ea eb n g fg wg wu wd = Cert.Kernel2Ideal.Hand.kOut x wa wb ea eb n g fg wg wu wd := by
  funext i
  idx_vars i
  exact Cert.Reference2Ideal.Ffn.refO_at x wa wb ea eb n g fg wg wu wd _ _ hA hB hne

/-- The experts' call computes the reference's experts. -/
theorem experts : @Cert.algebraic_Kernel2Ideal_Reference2Ideal_pre_experts_differ Cert.Kernel2Ideal.Gen.facts Cert.Reference2Ideal.Gen.facts Cert.FfnPre.differFacts := by
  intro m g m' g' hpre hagree
  have hd := fun c => Cert.FfnPre.decodedDiffer _ _ _ _ _ _ _ _ _ _ _ (fun i => congrFun (hpre c) i)
  have hO := Cert.Kernel2Ideal.Hand.ok_args m (hd 0).1
  refine ⟨fun c => Cert.Kernel2Ideal.Hand.kRes m c, ?_, ?_⟩
  · refine (θ_run _ _ _).mono (fun r h c => ⟨(h.1.out_eq c 9).trans (Cert.Kernel2Ideal.Hand.final m hO c (hd c).1.1 (hd c).1.2), h.2 c⟩)
      (θ_run_and (Cert.Kernel2Ideal.Hand.run_main m g hO) (Cert.Kernel2Ideal.Hand.unchanged m g hO))
  · refine (θ_run _ _ _).mono (fun r h c => ⟨(h c).1.trans ?_, (h c).2⟩) (Cert.Reference2Ideal.Value.run (F := Ideal) m' g')
    refine (Cert.Reference2Ideal.Ffn.res_eq m' c).trans ?_
    obtain ⟨h0, h1, h2, h3, h4, h5, h6, h7, h8, h9, h10⟩ := hagree c
    rw [h0, h1, h2, h3, h4, h5, h6, h7, h8, h9, h10]
    exact value_eq _ _ _ _ _ _ _ _ _ _ _ (hd c).1.1 (hd c).1.2 (hd c).2

end Cert.FfnEq
end
-- ==== Proof.FfnBits.lean ====
module

public import proofs.«01_k».proof.Defs
public import proofs.«01_k».proof.Proof.Gen.Kernel2
public import proofs.«01_k».proof.Proof.FfnOk

@[expose] public section
set_option maxRecDepth 16384
noncomputable section
namespace Cert.FfnBits
open Idealize.ShloMosaic Idealize.ShloMosaic.TcCoe Idealize.SL.Sem

set_option maxHeartbeats 8000000 in
/-- The two programs have one text: the body of the call. -/
theorem bodies_eq : (Cert.Kernel2.defs₀ (F := Bits) : _) = (Cert.Kernel2Ideal.defs₀ (F := Bits) : _) := by
  refine congrArg Defs.onTc (funext fun l => ?_)
  obtain ⟨l, hl⟩ := l
  obtain rfl : l = 0 := by omega
  refine funext fun a => ?_
  obtain ⟨t, s⟩ := a
  dsimp only
  rfl

set_option maxHeartbeats 8000000 in
/-- The call's body and its launch. -/
theorem defs_eq : (Cert.Kernel2.defs (F := Bits) : _) = (Cert.Kernel2Ideal.defs (F := Bits) : _) :=
  congrArg (Pipeline.defs (Cert.Kernel2Ideal.pcfgs (F := Bits))) bodies_eq

set_option maxHeartbeats 8000000 in
/-- The host code. -/
theorem main_eq : (Cert.Kernel2.main (F := Bits) : _) = (Cert.Kernel2Ideal.main (F := Bits) : _) := rfl

set_option maxHeartbeats 8000000 in
/-- The experts' call runs, keeps its arguments and ends quiescent, for the machine's words. -/
theorem frame : @Cert.quiescent_Kernel2 Cert.Kernel2.Gen.facts Cert.FfnPre.preFacts := fun m ρ h => by
  have e := Cert.Kernel2Ideal.Hand.frame (F := Bits) m ρ (Cert.Kernel2Ideal.Hand.ok_args m (Cert.FfnPre.decoded _ _ _ _ _ _ _ _ _ _ _ (fun i => congrFun (h 0) i)))
  rw [← defs_eq, ← main_eq] at e
  exact e

end Cert.FfnBits
end
-- ==== Proof.MemVal.lean ====
module

public import proofs.«01_k».proof.Proof.Gen.Kernel3Ideal.Value
public import proofs.«01_k».proof.Proof.Gen.Reference3Ideal.Run
public import proofs.«01_k».proof.Defs
public import proofs.«01_k».proof.Proof.FfnMath

@[expose] public section
set_option maxRecDepth 16384
noncomputable section

namespace Cert.Kernel3Ideal.Mem
open Cert.Kernel3Ideal Cert.Kernel3Ideal.Gen Idealize.ShloMosaic Idealize.ShloMosaic.TcCoe Idealize.SL.Sem
open Cert.Ffn

/-- One lane of one memory token: its normalised row against a column of the weight. -/
def proj (x : S8x256x1024.Idx → EReal) (g : S1024.Idx → EReal) (w : S1024x1024.Idx → EReal) (i : S8x256x1024.Idx) : EReal :=
  ∑ k : Fin 1024, nrm (fun k => x (ix3 (i 0) (i 1) k)) (fun k => g (ix1 k)) k * w (ix2 k (i 2))

theorem pay1_at (x : Vec Ideal S1x256x1024 .f32) (g : Vec Ideal S1x1024 .f32) (r : Fin 256) (d : Fin 1024) :
    k0_pay1 x g (ix2 r d) = nrm (fun k => x (ix3 0 r k)) (fun k => g (ix2 0 k)) d := by
  pointwise [k0_pay1]
  rfl

/-- The block of keys. -/
theorem pay2_at (x : Vec Ideal S1x256x1024 .f32) (g : Vec Ideal S1x1024 .f32) (w : Vec Ideal S1024x1024 .bf16) (r : Fin 256) (d : Fin 1024) :
    k0_pay2 x g w (ix3 0 r d) = ∑ k : Fin 1024, nrm (fun k => x (ix3 0 r k)) (fun k => g (ix2 0 k)) k * w (ix2 k d) := by
  pointwise [k0_pay2]
  simp only [pay1_at]

/-- The block of values is the same function of the other weight. -/
theorem pay3_eq (x : Vec Ideal S1x256x1024 .f32) (g : Vec Ideal S1x1024 .f32) (w : Vec Ideal S1024x1024 .bf16) : k0_pay3 x g w = k0_pay2 x g w := rfl

theorem idx0 : ∀ t : Fin cfg0.N, win0_0.index t = ![t.val, 0, 0] := (by decide +kernel : ∀ t : Fin grid0.N, win0_0.index t = ![t.val, 0, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![t.val, 0, 0] := (by decide +kernel : ∀ t : Fin grid0.N, win0_4.index t = ![t.val, 0, 0])
theorem idx5 : ∀ t : Fin cfg0.N, win0_5.index t = ![t.val, 0, 0] := (by decide +kernel : ∀ t : Fin grid0.N, win0_5.index t = ![t.val, 0, 0])

section
variable (m : (ℓ : Loc nD τ sig) → Buf (Elt Ideal) ℓ) (c : Dev nD) (t : Fin cfg0.N)

/-- The arguments as launched. -/
def argX : S8x256x1024.Idx → EReal := m ((c : Thread nD τ).loc main_arg0)
def argG : S1024.Idx → EReal := m ((c : Thread nD τ).loc main_arg1)
def argK : S1024x1024.Idx → EReal := m ((c : Thread nD τ).loc main_arg2)
def argV : S1024x1024.Idx → EReal := m ((c : Thread nD τ).loc main_arg3)

theorem x_at (b : Fin 8) (hb : b.val = t.val) (r : Fin 256) (k : Fin 1024) : iblk m c 0 t (ix3 0 r k) = argX m c (ix3 b r k) := by
  unfold iblk argX
  rw [← V_main_arg0 m c]
  refine congrArg (V m c main_arg0) (funext fun a => Fin.ext ?_)
  fin_cases a
  all_goals (blk_simp [idx0 t]; try omega)
  all_goals simp
  all_goals omega

theorem g_at (k : Fin 1024) : iblk m c 1 t (ix2 0 k) = argG m c (ix1 k) := by
  have e : V m c main_v0 = (broadcastInDim S1x1024 ![1] bcast_S1024_S1x1024_1 (m ((c : Thread nD τ).loc main_arg1) : FVec Ideal S1024 .f32) : FVec Ideal S1x1024 .f32) := by
    entry_read
    rfl
  have h : iblk m c 1 t (ix2 0 k) = V m c main_v0 (ix2 0 k) := by
    refine congrArg (V m c main_v0) (funext fun a => Fin.ext ?_)
    fin_cases a
    all_goals (blk_simp [idx1 t]; try omega)
    all_goals simp
  rw [h, e]
  unfold argG
  pointwise

theorem k_at (k d : Fin 1024) : iblk m c 2 t (ix2 k d) = argK m c (ix2 k d) := by
  have e : V m c main_v1 = (truncf .bf16 (m ((c : Thread nD τ).loc main_arg2) : FVec Ideal S1024x1024 .f32) bitsLt_bf16_f32 : FVec Ideal S1024x1024 .bf16) := by
    entry_read
    rfl
  have h : iblk m c 2 t (ix2 k d) = V m c main_v1 (ix2 k d) := by
    refine congrArg (V m c main_v1) (funext fun a => Fin.ext ?_)
    fin_cases a
    all_goals (blk_simp [idx2 t]; try omega)
    all_goals simp
  rw [h, e]
  rfl

theorem v_at (k d : Fin 1024) : iblk m c 3 t (ix2 k d) = argV m c (ix2 k d) := by
  have e : V m c main_v2 = (truncf .bf16 (m ((c : Thread nD τ).loc main_arg3) : FVec Ideal S1024x1024 .f32) bitsLt_bf16_f32 : FVec Ideal S1024x1024 .bf16) := by
    entry_read
    rfl
  have h : iblk m c 3 t (ix2 k d) = V m c main_v2 (ix2 k d) := by
    refine congrArg (V m c main_v2) (funext fun a => Fin.ext ?_)
    fin_cases a
    all_goals (blk_simp [idx3 t]; try omega)
    all_goals simp
  rw [h, e]
  rfl

/-- A point's block is the projection of its batch, for either weight. -/
theorem point (w : Vec Ideal S1024x1024 .bf16) (W : S1024x1024.Idx → EReal) (hw : ∀ k d, w (ix2 k d) = W (ix2 k d)) (y : S1x256x1024.Idx) (z : S8x256x1024.Idx)
    (e0 : (z 0).val = t.val) (e1 : (z 1).val = (y 1).val) (e2 : (z 2).val = (y 2).val) :
    k0_pay2 (iblk m c 0 t) (iblk m c 1 t) w y = proj (argX m c) (argG m c) W z := by
  obtain ⟨y0, r, d, rfl⟩ : ∃ (a : Fin 1) (r : Fin 256) (d : Fin 1024), y = ix3 a r d := ⟨y 0, y 1, y 2, by funext a; fin_cases a <;> rfl⟩
  obtain rfl : y0 = 0 := Subsingleton.elim _ _
  obtain ⟨b, r', d', rfl⟩ : ∃ (b : Fin 8) (r : Fin 256) (d : Fin 1024), z = ix3 b r d := ⟨z 0, z 1, z 2, by funext a; fin_cases a <;> rfl⟩
  obtain rfl : r' = r := Fin.ext e1
  obtain rfl : d' = d := Fin.ext e2
  rw [pay2_at]
  simp only [x_at m c t b e0, g_at, hw]
  rfl

/-- The keys after the run. -/
theorem finalK : (dats m 0 c).arrAt 4 cfg0.N = proj (argX m c) (argG m c) (argK m c) := by
  refine (dats m 0 c).arrAt_eq_of_covers 4 _ (by decide +kernel) fun t hf y => ?_
  blk_simp
  rw [after0_4]
  frame_out
  exact point m c t _ _ (k_at m c t) y _ (by blk_simp [idx4 t]) (by blk_simp [idx4 t]) (by blk_simp [idx4 t])

/-- The values after the run. -/
theorem finalV : (dats m 0 c).arrAt 5 cfg0.N = proj (argX m c) (argG m c) (argV m c) := by
  refine (dats m 0 c).arrAt_eq_of_covers 5 _ (by decide +kernel) fun t hf y => ?_
  blk_simp
  rw [after0_5]
  frame_out
  rw [pay3_eq]
  exact point m c t _ _ (v_at m c t) y _ (by blk_simp [idx5 t]) (by blk_simp [idx5 t]) (by blk_simp [idx5 t])

end

end Cert.Kernel3Ideal.Mem

namespace Cert.Reference3Ideal.Mem
open Cert.Reference3Ideal Cert.Reference3Ideal.Gen Idealize.ShloMosaic Idealize.ShloMosaic.TcCoe Idealize.SL.Sem
open Cert.Ffn

/-- The memory, normalised. -/
def refN (x : FVec Ideal S8x256x1024 .f32) (g : FVec Ideal S1024 .f32) : FVec Ideal S8x256x1024 .f32 :=
  mulf (mulf x (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf x x) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 g))

/-- The memory against one weight. -/
def refP (x : FVec Ideal S8x256x1024 .f32) (g : FVec Ideal S1024 .f32) (w : FVec Ideal S1024x1024 .f32) : FVec Ideal S8x256x1024 .bf16 :=
  truncf .bf16 (Host.dotGeneral dot_S8x256x1024_S1024x1024_S8x256x1024_2_0_01_1_n_n none (refN x g) w) bitsLt_bf16_f32

theorem refN_at (x g) (b : Fin 8) (r : Fin 256) (d : Fin 1024) : refN x g (ix3 b r d) = nrm (fun k => x (ix3 b r k)) (fun k => g (ix1 k)) d := by
  pointwise [refN]
  rfl

/-- The reference computes the same projection. -/
theorem refP_eq (x g w) : refP x g w = Cert.Kernel3Ideal.Mem.proj x g w := by
  funext i
  obtain ⟨b, r, d, rfl⟩ : ∃ (b : Fin 8) (r : Fin 256) (d : Fin 1024), i = ix3 b r d := ⟨i 0, i 1, i 2, by funext a; fin_cases a <;> rfl⟩
  unfold Cert.Kernel3Ideal.Mem.proj
  pointwise [refP]
  simp only [refN_at]

end Cert.Reference3Ideal.Mem

namespace Cert.MemVal
open Idealize.ShloMosaic Idealize.ShloMosaic.TcCoe Idealize.SL.Sem

/-- The memory's call computes the reference's keys and values. -/
theorem memory : @Cert.algebraic_Kernel3Ideal_Reference3Ideal Cert.Kernel3Ideal.Gen.facts Cert.Reference3Ideal.Gen.facts := by
  intro m g m' g' _ hagree
  refine ⟨fun c => Cert.Kernel3Ideal.Mem.proj (Cert.Kernel3Ideal.Mem.argX m c) (Cert.Kernel3Ideal.Mem.argG m c) (Cert.Kernel3Ideal.Mem.argK m c),
    fun c => Cert.Kernel3Ideal.Mem.proj (Cert.Kernel3Ideal.Mem.argX m c) (Cert.Kernel3Ideal.Mem.argG m c) (Cert.Kernel3Ideal.Mem.argV m c), ?_, ?_⟩
  · exact (θ_run _ _ _).mono (fun r h c => ⟨(h c).1.trans (Cert.Kernel3Ideal.Mem.finalK m c), (h c).2.1.trans (Cert.Kernel3Ideal.Mem.finalV m c), (h c).2.2⟩)
      (Cert.Kernel3Ideal.Value.run_blocks m g)
  · refine (θ_run _ _ _).mono (fun r h c => ⟨(h c).1.trans ?_, (h c).2.1.trans ?_, (h c).2.2⟩) (Cert.Reference3Ideal.Value.run (F := Ideal) m' g')
    · rw [(hagree c).1, (hagree c).2.1, (hagree c).2.2.1]
      exact Cert.Reference3Ideal.Mem.refP_eq _ _ _
    · rw [(hagree c).1, (hagree c).2.1, (hagree c).2.2.2]
      exact Cert.Reference3Ideal.Mem.refP_eq _ _ _

end Cert.MemVal
end
-- ==== Proof.MidMath.lean ====
module

public import Idealize.ShloMosaic.Lib.Pipeline.ValueKit
public import Idealize.ShloMosaic.Lib.Pointwise
public import proofs.«01_k».proof.Proof.FfnMath
public import proofs.«01_k».proof.Proof.AttnAlg

@[expose] public section
noncomputable section
namespace Cert.Mid
open Idealize.ShloMosaic Cert.Ffn

/-- A row of 512 lanes normalised and scaled by a gain. -/
def nrm5 (x g : Fin 512 → EReal) (d : Fin 512) : EReal :=
  x d * Ideal.rsqrt (Ideal.div (∑ k, x k * x k) (Ideal.ofBits .f32 0x44000000#32) + Ideal.ofBits .f32 0x358637BD#32) * g d

/-- The mixer's channels, gated by their own projection. -/
def gate (z : Fin 512 → EReal) (w : Fin 512 → Fin 512 → EReal) (b : Fin 512 → EReal) (d : Fin 512) : EReal :=
  z d * Ideal.logistic ((∑ k, z k * w k d) + b d)

/-- Two rows of 512 lanes side by side. -/
def cat (a s : Fin 512 → EReal) (d : Fin 1024) : EReal :=
  if h : d.val < 512 then a ⟨d.val, h⟩ else s ⟨d.val - 512, by omega⟩

/-- A row with the output projection of the two normalised halves added. -/
def mix (x : Fin 1024 → EReal) (a s ag sg : Fin 512 → EReal) (wo : Fin 1024 → Fin 1024 → EReal) (d : Fin 1024) : EReal :=
  x d + ∑ k, cat (nrm5 a ag) (nrm5 s sg) k * wo k d

/-- The query of a row. -/
def qry (x g : Fin 1024 → EReal) (wq : Fin 1024 → Fin 1024 → EReal) (d : Fin 1024) : EReal := ∑ k, nrm x g k * wq k d

/-- The lane of a head. -/
def hd (h : Fin 4) (j : Fin 256) : Fin 1024 := ⟨h.val * 256 + j.val, by omega⟩

/-- A head's scores, the query scaled first. -/
def scoreK (q : Fin 1024 → EReal) (k : Fin 256 → Fin 1024 → EReal) (h : Fin 4) (s : Fin 256) : EReal :=
  ∑ j, q (hd h j) * Ideal.ofBits .f32 0x3D800000#32 * k s (hd h j)

/-- A head's scores, scaled last. -/
def scoreR (q : Fin 1024 → EReal) (k : Fin 256 → Fin 1024 → EReal) (h : Fin 4) (s : Fin 256) : EReal :=
  (∑ j, q (hd h j) * k s (hd h j)) * Ideal.ofBits .f32 0x3D800000#32

/-- Weighted values, divided by the weights' sum last. -/
def attK (S V : Fin 256 → EReal) : EReal :=
  (∑ s, Ideal.exp (S s - Finset.univ.fold max ⊥ S) * V s) * Ideal.div 1 (∑ s, Ideal.exp (S s - Finset.univ.fold max ⊥ S))

/-- Weighted values, each weight divided first. -/
def attR (S V : Fin 256 → EReal) : EReal :=
  ∑ s, V s * Ideal.div (Ideal.exp (S s - Finset.univ.fold max ⊥ S)) (∑ s', Ideal.exp (S s' - Finset.univ.fold max ⊥ S))

/-- The row after attention over the memory, with the weights divided last. -/
def outK (x g : Fin 1024 → EReal) (wq wo : Fin 1024 → Fin 1024 → EReal) (k v : Fin 256 → Fin 1024 → EReal) (d : Fin 1024) : EReal :=
  x d + ∑ l : Fin 1024, attK (scoreK (qry x g wq) k ⟨l.val / 256, by omega⟩) (fun s => v s l) * wo l d

/-- The row after attention over the memory, with the weights divided first. -/
def outR (x g : Fin 1024 → EReal) (wq wo : Fin 1024 → Fin 1024 → EReal) (k v : Fin 256 → Fin 1024 → EReal) (d : Fin 1024) : EReal :=
  x d + ∑ l : Fin 1024, attR (scoreR (qry x g wq) k ⟨l.val / 256, by omega⟩) (fun s => v s l) * wo l d

theorem sq_nonneg (a : EReal) : 0 ≤ a * a := by
  induction a with
  | bot => simp
  | coe r => exact_mod_cast mul_self_nonneg r
  | top => simp

theorem kilo : Ideal.ofBits FTy.f32 0x44800000#32 = ((1024 : ℝ) : EReal) := by
  simp [Ideal.ofBits, Ideal.ieee]
  rw [← EReal.coe_mul]
  norm_num

theorem eps : ∃ e : ℝ, 0 < e ∧ Ideal.ofBits FTy.f32 0x358637BD#32 = (e : EReal) := by
  refine ⟨(8796093 : ℝ) * (2 ^ 43)⁻¹, by positivity, ?_⟩
  simp [Ideal.ofBits, Ideal.ieee]

theorem sixteenth : Ideal.ofBits FTy.f32 0x3D800000#32 = ((1 / 16 : ℝ) : EReal) := by
  simp [Ideal.ofBits, Ideal.ieee]
  rw [← EReal.coe_mul]
  norm_num

/-- A normalised row is real, whatever the row: with an infinite entry the factor is zero. -/
theorem row_real (x : Fin 1024 → EReal) (d : Fin 1024) : ∃ r : ℝ, x d * ms x = (r : EReal) := by
  obtain ⟨e, he, hE⟩ := eps
  by_cases h : ∀ k, ∃ r : ℝ, x k = (r : EReal)
  · choose f hf using h
    unfold ms
    simp only [hf, hE, kilo, ← EReal.coe_mul, AttnAlg.sum_coe, Ideal.div_coe (show (1024 : ℝ) ≠ 0 by norm_num), ← EReal.coe_add]
    have hp : 0 < (∑ i, f i * f i) * (1 / 1024) + e := by
      have : 0 ≤ ∑ i, f i * f i := Finset.sum_nonneg fun i _ => mul_self_nonneg _
      positivity
    rw [Ideal.rsqrt_coe, if_neg (not_lt.mpr hp.le), if_neg hp.ne', ← EReal.coe_mul]
    exact ⟨_, rfl⟩
  · push Not at h
    obtain ⟨k, hk⟩ := h
    have ht : x k * x k = ⊤ := by
      revert hk
      induction x k with
      | bot => simp
      | coe r => intro h; exact absurd rfl (h r)
      | top => simp
    have hs : ∑ k, x k * x k = ⊤ := by
      rw [← Finset.add_sum_erase _ _ (Finset.mem_univ k), ht]
      refine EReal.top_add_of_ne_bot (ne_of_gt ?_)
      exact lt_of_lt_of_le EReal.bot_lt_zero (Finset.sum_nonneg fun i _ => sq_nonneg _)
    have hm : ms x = 0 := by
      unfold ms
      rw [hs, hE, kilo, Ideal.div_coe (by norm_num), EReal.top_mul_of_pos (by exact_mod_cast (by norm_num : (0 : ℝ) < 1 / 1024)), EReal.top_add_coe]
      rfl
    exact ⟨0, by rw [hm, mul_zero]; rfl⟩

/-- With real gains and weights the query is real. -/
theorem qry_real (x g : Fin 1024 → EReal) (wq : Fin 1024 → Fin 1024 → EReal) (hg : ∀ k, ∃ r : ℝ, g k = (r : EReal))
    (hw : ∀ k d, ∃ r : ℝ, wq k d = (r : EReal)) (d : Fin 1024) : ∃ r : ℝ, qry x g wq d = (r : EReal) := by
  choose n hn using row_real x
  choose g' hg using hg
  choose w' hw using hw
  unfold qry nrm
  simp only [hn, hg, hw, ← EReal.coe_mul, AttnAlg.sum_coe]
  exact ⟨_, rfl⟩

/-- Scaling the query first or the scores last gives the same real scores. -/
theorem score (q : Fin 1024 → EReal) (k : Fin 256 → Fin 1024 → EReal) (hq : ∀ d, ∃ r : ℝ, q d = (r : EReal))
    (hk : ∀ s d, ∃ r : ℝ, k s d = (r : EReal)) (h : Fin 4) : scoreK q k h = scoreR q k h ∧ ∀ s, ∃ r : ℝ, scoreR q k h s = (r : EReal) := by
  choose f hf using hq
  choose g hg using hk
  unfold scoreK scoreR
  simp only [hf, hg, sixteenth, ← EReal.coe_mul, AttnAlg.sum_coe]
  refine ⟨funext fun s => congrArg _ ?_, fun s => ⟨_, rfl⟩⟩
  rw [Finset.sum_mul]
  exact Finset.sum_congr rfl fun d _ => by ring

/-- With real gains, query weights and keys the two orders agree. -/
theorem out_eq (x g : Fin 1024 → EReal) (wq wo : Fin 1024 → Fin 1024 → EReal) (k v : Fin 256 → Fin 1024 → EReal)
    (hg : ∀ k, ∃ r : ℝ, g k = (r : EReal)) (hw : ∀ k d, ∃ r : ℝ, wq k d = (r : EReal)) (hk : ∀ s d, ∃ r : ℝ, k s d = (r : EReal)) :
    outK x g wq wo k v = outR x g wq wo k v := by
  funext d
  unfold outK outR
  refine congrArg (x d + ·) (Finset.sum_congr rfl fun l _ => congrArg (· * wo l d) ?_)
  obtain ⟨e, hr⟩ := score _ k (qry_real x g wq hg hw) hk ⟨l.val / 256, by omega⟩
  rw [e]
  exact AttnAlg.softmax_eq _ _ hr

end Cert.Mid
end
-- ==== Proof.MidPay.lean ====
module

public import proofs.«01_k».proof.Proof.Gen.Kernel4Ideal.Skeleton
public import proofs.«01_k».proof.Proof.MidMath

@[expose] public section
set_option maxRecDepth 16384
noncomputable section
namespace Cert.Kernel4Ideal.Mid
open Cert.Kernel4Ideal Cert.Kernel4Ideal.Gen Idealize.ShloMosaic Idealize.ShloMosaic.TcCoe Idealize.SL.Sem
open Cert.Ffn Cert.Mid

theorem negInf : Ideal.ofBits FTy.f32 4286578688#32 = ⊥ := by
  simp [Ideal.ofBits, Ideal.ieee]

/-- The four sets of lanes side by side. -/
def glB (a b c d : Vec Ideal S1x512x128 .f32) : FVec Ideal S512x512 .bf16 :=
  truncf .bf16 (concatenate S512x512 1 [⟨S512x128, shapeCast S512x128 a shapeCasts_S1x512x128_S512x128⟩, ⟨S512x128, shapeCast S512x128 b shapeCasts_S1x512x128_S512x128⟩, ⟨S512x128, shapeCast S512x128 c shapeCasts_S1x512x128_S512x128⟩, ⟨S512x128, shapeCast S512x128 d shapeCasts_S1x512x128_S512x128⟩] concatenates_S512x128_S512x128_S512x128_S512x128_S512x512_d1) bitsLt_bf16_f32

/-- The channels, gated. -/
def gateB (z : FVec Ideal S512x512 .bf16) (w : Vec Ideal S512x512 .bf16) (b : Vec Ideal S1x512 .f32) : FVec Ideal S512x512 .f32 :=
  mulf (extf .f32 z bitsLt_bf16_f32) (logistic (addf (matmul dot_S512x512_S512x512_S512x512_1_0_0_1_n_n none z (shapeCast S512x512 w shapeCasts_S512x512_S512x512 : FVec Ideal S512x512 .bf16) (constant S512x512 .f32 0x00000000#32)) (broadcastTo S512x512 (shapeCast S1x512 b shapeCasts_S1x512_S1x512) broadcasts_S1x512_S512x512)))

/-- One half of the mixer's row, normalised and scaled. -/
def normB (x : FVec Ideal S512x512 .f32) (g : Vec Ideal S1x512 .f32) : FVec Ideal S512x512 .f32 :=
  mulf (mulf x (broadcastTo S512x512 (rsqrt (addf (divf (shapeCast S512x1 (multiReduction .add [1] S512 (mulf x x) 0x00000000#32 reduces_S512x512_S512 (.inl rfl) rfl) shapeCasts_S512_S512x1) (broadcast S512x1 (Scalar.ofBits .f32 0x44000000#32))) (broadcast S512x1 (Scalar.ofBits .f32 0x358637BD#32)))) broadcasts_S512x1_S512x512)) (broadcastTo S512x512 (shapeCast S1x512 g shapeCasts_S1x512_S1x512) broadcasts_S1x512_S512x512)

/-- The two halves side by side. -/
def catB (a s : FVec Ideal S512x512 .f32) : FVec Ideal S512x1024 .bf16 :=
  truncf .bf16 (concatenate S512x1024 1 [⟨S512x512, a⟩, ⟨S512x512, s⟩] concatenates_S512x512_S512x512_S512x1024_d1) bitsLt_bf16_f32

/-- A product with a square weight, added to a residual. -/
def addB (x : FVec Ideal S512x1024 .f32) (a : FVec Ideal S512x1024 .bf16) (w : Vec Ideal S1024x1024 .bf16) : FVec Ideal S512x1024 .f32 :=
  addf x (matmul dot_S512x1024_S1024x1024_S512x1024_1_0_0_1_n_n none a (shapeCast S1024x1024 w shapeCasts_S1024x1024_S1024x1024 : FVec Ideal S1024x1024 .bf16) (constant S512x1024 .f32 0x00000000#32))

/-- A whole row, normalised and scaled. -/
def rowB (x : FVec Ideal S512x1024 .f32) (g : Vec Ideal S1x1024 .f32) : FVec Ideal S512x1024 .bf16 :=
  truncf .bf16 (mulf (mulf x (broadcastTo S512x1024 (rsqrt (addf (divf (shapeCast S512x1 (multiReduction .add [1] S512 (mulf x x) 0x00000000#32 reduces_S512x1024_S512 (.inl rfl) rfl) shapeCasts_S512_S512x1) (broadcast S512x1 (Scalar.ofBits .f32 0x44800000#32))) (broadcast S512x1 (Scalar.ofBits .f32 0x358637BD#32)))) broadcasts_S512x1_S512x1024)) (broadcastTo S512x1024 (shapeCast S1x1024 g shapeCasts_S1x1024_S1x1024) broadcasts_S1x1024_S512x1024)) bitsLt_bf16_f32

/-- The scaled query. -/
def qryB (h : FVec Ideal S512x1024 .bf16) (w : Vec Ideal S1024x1024 .bf16) : FVec Ideal S512x1024 .bf16 :=
  truncf .bf16 (mulf (matmul dot_S512x1024_S1024x1024_S512x1024_1_0_0_1_n_n none h (shapeCast S1024x1024 w shapeCasts_S1024x1024_S1024x1024 : FVec Ideal S1024x1024 .bf16) (constant S512x1024 .f32 0x00000000#32)) (broadcast S512x1024 (Scalar.ofBits .f32 0x3D800000#32))) bitsLt_bf16_f32

/-- The scores of one head. -/
def scoB (q : FVec Ideal S512x256 .bf16) (k : Vec Ideal S1x256x256 .bf16) : FVec Ideal S512x256 .f32 :=
  matmul dot_S512x256_S256x256_S512x256_1_1_0_0_n_n none q (shapeCast S256x256 k shapeCasts_S1x256x256_S256x256 : FVec Ideal S256x256 .bf16) (constant S512x256 .f32 0x00000000#32)

/-- The four heads side by side. -/
def attB (q : FVec Ideal S512x1024 .bf16) (k0 v0 k1 v1 k2 v2 k3 v3 : Vec Ideal S1x256x256 .bf16) : FVec Ideal S512x1024 .bf16 :=
  concatenate S512x1024 1 [⟨S512x256, k0_pay156 (scoB (extractStridedSlice S512x256 ![0, 0] q slices_S512x1024_o0_0_S512x256) k0) v0⟩,
    ⟨S512x256, k0_pay156 (scoB (extractStridedSlice S512x256 ![0, 256] q slices_S512x1024_o0_256_S512x256) k1) v1⟩,
    ⟨S512x256, k0_pay156 (scoB (extractStridedSlice S512x256 ![0, 512] q slices_S512x1024_o0_512_S512x256) k2) v2⟩,
    ⟨S512x256, k0_pay156 (scoB (extractStridedSlice S512x256 ![0, 768] q slices_S512x1024_o0_768_S512x256) k3) v3⟩] concatenates_S512x256_S512x256_S512x256_S512x256_S512x1024_d1

/-- The row after the output projection. -/
def mixB (a b c d : Vec Ideal S1x512x128 .f32) (gw : Vec Ideal S512x512 .bf16) (gb : Vec Ideal S1x512 .f32) (ya : Vec Ideal S512x512 .bf16)
    (ag sg : Vec Ideal S1x512 .f32) (x : Vec Ideal S512x1024 .f32) (w : Vec Ideal S1024x1024 .bf16) : FVec Ideal S512x1024 .f32 :=
  addB x (catB (normB (extf .f32 ya bitsLt_bf16_f32) ag) (normB (gateB (glB a b c d) gw gb) sg)) w

/-- A block's first 1024 lanes. -/
def blkB (a b c d : Vec Ideal S1x512x128 .f32) (gw : Vec Ideal S512x512 .bf16) (gb : Vec Ideal S1x512 .f32) (ya : Vec Ideal S512x512 .bf16)
    (ag sg : Vec Ideal S1x512 .f32) (x : Vec Ideal S512x1024 .f32) (w : Vec Ideal S1024x1024 .bf16) (xg : Vec Ideal S1x1024 .f32)
    (wq wo : Vec Ideal S1024x1024 .bf16) (k0 v0 k1 v1 k2 v2 k3 v3 : Vec Ideal S1x256x256 .bf16) : FVec Ideal S512x1024 .f32 :=
  addB (mixB a b c d gw gb ya ag sg x w) (attB (qryB (rowB (mixB a b c d gw gb ya ag sg x w) xg) wq) k0 v0 k1 v1 k2 v2 k3 v3) wo

theorem cast512 (x : Vec Ideal S512x1024 .f32) : shapeCast S512x1024 x shapeCasts_S512x1024_S512x1024 = x := by
  funext i; idx_vars i; pointwise

theorem castY (x : Vec Ideal S512x512 .bf16) : shapeCast S512x512 x shapeCasts_S512x512_S512x512 = x := by
  funext i; idx_vars i; pointwise

/-- The first block of rows. -/
theorem lo_eq (a b c d : Vec Ideal S1x512x128 .f32) (gw : Vec Ideal S512x512 .bf16) (gb : Vec Ideal S1x512 .f32) (ya : Vec Ideal S512x512 .bf16)
    (ag sg : Vec Ideal S1x512 .f32) (x : Vec Ideal S512x1024 .f32) (w : Vec Ideal S1024x1024 .bf16) (xg : Vec Ideal S1x1024 .f32)
    (wq wo : Vec Ideal S1024x1024 .bf16) (k0 v0 k1 v1 k2 v2 k3 v3 : Vec Ideal S1x256x256 .bf16) (X : FVec Ideal S512x1024 .f32) (hX : X = k0_pay148 (k0_pay75 (k0_pay74 a) b c d gw gb) ya ag sg x w) :
    k0_pay167 X (k0_pay160 (k0_pay153 X (k0_pay151 X) k0_pay152 xg wq) (k0_pay156 (k0_pay155 X (k0_pay151 X) k0_pay152 xg wq k0) v0)
      (k0_pay157 (k0_pay153 X (k0_pay151 X) k0_pay152 xg wq) k1 v1) (k0_pay158 (k0_pay153 X (k0_pay151 X) k0_pay152 xg wq)) (k0_pay159 k2) (constant S512x256 .f32 0x00000000#32) v2 k3 v3) wo
      = blkB a b c d gw gb ya ag sg x w xg wq wo k0 v0 k1 v1 k2 v2 k3 v3 := by
  have e : X = mixB a b c d gw gb ya ag sg x w := by
    rw [hX]
    unfold k0_pay148 k0_pay75 k0_pay74
    rw [cast512, castY]
    rfl
  subst e
  rfl

/-- The second block of rows is the same function of its own loads. -/
theorem hi_eq (a b c d : Vec Ideal S1x512x128 .f32) (gw : Vec Ideal S512x512 .bf16) (gb : Vec Ideal S1x512 .f32) (ya : Vec Ideal S512x512 .bf16)
    (ag sg : Vec Ideal S1x512 .f32) (x : Vec Ideal S512x1024 .f32) (w : Vec Ideal S1024x1024 .bf16) (xg : Vec Ideal S1x1024 .f32)
    (wq wo : Vec Ideal S1024x1024 .bf16) (k0 v0 k1 v1 k2 v2 k3 v3 : Vec Ideal S1x256x256 .bf16) (X : FVec Ideal S512x1024 .f32) (hX : X = k0_pay150 (k0_pay147 a b c d gw gb) (k0_pay149 ya) ag sg x w) :
    k0_pay1 X (k0_pay169 (k0_pay162 (k0_pay161 (k0_pay154 X xg wq)) k0 v0) (k0_pay163 (k0_pay154 X xg wq) k1 v1)
      (k0_pay165 (k0_pay164 (k0_pay154 X xg wq)) k2 v2) (k0_pay166 (k0_pay154 X xg wq) k3 v3) wo)
      = blkB a b c d gw gb ya ag sg x w xg wq wo k0 v0 k1 v1 k2 v2 k3 v3 := by
  have e : X = mixB a b c d gw gb ya ag sg x w := by
    rw [hX]
    unfold k0_pay150 k0_pay147 k0_pay149
    rw [cast512, castY]
    rfl
  subst e
  rfl

theorem glB_at (a b c d : Vec Ideal S1x512x128 .f32) (r : Fin 512) (f : Fin 512 → EReal) (ha : ∀ l : Fin 128, a (ix3 0 r l) = f ⟨l.val, by omega⟩)
    (hb : ∀ l : Fin 128, b (ix3 0 r l) = f ⟨l.val + 128, by omega⟩) (hc : ∀ l : Fin 128, c (ix3 0 r l) = f ⟨l.val + 256, by omega⟩)
    (hd : ∀ l : Fin 128, d (ix3 0 r l) = f ⟨l.val + 384, by omega⟩) (l : Fin 512) : glB a b c d (ix2 r l) = f l := by
  pointwise [glB]
  split
  · rw [ha]
  split
  · rw [hb]; exact congrArg f (Fin.ext (by dsimp only; omega))
  split
  · rw [hc]; exact congrArg f (Fin.ext (by dsimp only; omega))
  · rw [hd]; exact congrArg f (Fin.ext (by dsimp only; omega))

theorem gateB_at (z : FVec Ideal S512x512 .bf16) (w : Vec Ideal S512x512 .bf16) (b : Vec Ideal S1x512 .f32) (r d : Fin 512) :
    gateB z w b (ix2 r d) = gate (fun k => z (ix2 r k)) (fun k d => w (ix2 k d)) (fun d => b (ix2 0 d)) d := by
  pointwise [gateB]
  rfl

theorem normB_at (x : FVec Ideal S512x512 .f32) (g : Vec Ideal S1x512 .f32) (r d : Fin 512) :
    normB x g (ix2 r d) = nrm5 (fun k => x (ix2 r k)) (fun d => g (ix2 0 d)) d := by
  pointwise [normB]
  rfl

theorem catB_at (a s : FVec Ideal S512x512 .f32) (r : Fin 512) (d : Fin 1024) :
    catB a s (ix2 r d) = cat (fun k => a (ix2 r k)) (fun k => s (ix2 r k)) d := by
  pointwise [catB]
  rfl

theorem addB_at (x : FVec Ideal S512x1024 .f32) (a : FVec Ideal S512x1024 .bf16) (w : Vec Ideal S1024x1024 .bf16) (r : Fin 512) (d : Fin 1024) :
    addB x a w (ix2 r d) = x (ix2 r d) + ∑ k : Fin 1024, a (ix2 r k) * w (ix2 k d) := by
  pointwise [addB]

theorem rowB_at (x : FVec Ideal S512x1024 .f32) (g : Vec Ideal S1x1024 .f32) (r : Fin 512) (d : Fin 1024) :
    rowB x g (ix2 r d) = nrm (fun k => x (ix2 r k)) (fun k => g (ix2 0 k)) d := by
  pointwise [rowB]
  rfl

theorem qryB_at (h : FVec Ideal S512x1024 .bf16) (w : Vec Ideal S1024x1024 .bf16) (r : Fin 512) (d : Fin 1024) :
    qryB h w (ix2 r d) = (∑ k : Fin 1024, h (ix2 r k) * w (ix2 k d)) * Ideal.ofBits .f32 0x3D800000#32 := by
  pointwise [qryB]

theorem scoB_at (q : FVec Ideal S512x256 .bf16) (k : Vec Ideal S1x256x256 .bf16) (r : Fin 512) (s : Fin 256) :
    scoB q k (ix2 r s) = ∑ j : Fin 256, q (ix2 r j) * k (ix3 0 s j) := by
  pointwise [scoB]

theorem head_at (S : FVec Ideal S512x256 .f32) (v : Vec Ideal S1x256x256 .bf16) (r : Fin 512) (e : Fin 256) :
    k0_pay156 S v (ix2 r e) = attK (fun s => S (ix2 r s)) (fun s => v (ix3 0 s e)) := by
  pointwise [k0_pay156]
  rw [negInf]
  rfl

theorem slice_at (q : FVec Ideal S512x1024 .bf16) (o : ℕ) (hs) (r : Fin 512) (j : Fin 256) (l : Fin 1024) (h : l.val = o + j.val) :
    extractStridedSlice S512x256 ![0, o] q hs (ix2 r j) = q (ix2 r l) := by
  refine congrArg q (funext fun a => Fin.ext ?_)
  fin_cases a
  · exact Nat.zero_add _
  · exact h.symm

/-- One head at a row. -/
theorem one_at (q : FVec Ideal S512x1024 .bf16) (k v : Vec Ideal S1x256x256 .bf16) (K V : Fin 256 → Fin 1024 → EReal) (h : Fin 4) (o : ℕ) (ho : o = h.val * 256) (hs)
    (hk : ∀ s j, k (ix3 0 s j) = K s (hd h j)) (hv : ∀ s j, v (ix3 0 s j) = V s (hd h j)) (r : Fin 512) (e : Fin 256) (l : Fin 1024) (hl : l.val = o + e.val) :
    k0_pay156 (scoB (extractStridedSlice S512x256 ![0, o] q hs) k) v (ix2 r e)
      = attK (fun s => ∑ j, q (ix2 r (hd ⟨l.val / 256, by omega⟩ j)) * K s (hd ⟨l.val / 256, by omega⟩ j)) (fun s => V s l) := by
  subst ho
  have eh : (⟨l.val / 256, by omega⟩ : Fin 4) = h := Fin.ext (by dsimp only; omega)
  have el : hd h e = l := Fin.ext hl.symm
  rw [head_at, eh]
  simp only [scoB_at, hk, hv, el]
  refine congrArg (attK · _) (funext fun s => Finset.sum_congr rfl fun j _ => congrArg (· * _) ?_)
  exact slice_at q _ hs r j _ rfl

theorem attB_at (q : FVec Ideal S512x1024 .bf16) (k0 v0 k1 v1 k2 v2 k3 v3 : Vec Ideal S1x256x256 .bf16) (K V : Fin 256 → Fin 1024 → EReal)
    (hk0 : ∀ s j, k0 (ix3 0 s j) = K s (hd 0 j)) (hv0 : ∀ s j, v0 (ix3 0 s j) = V s (hd 0 j))
    (hk1 : ∀ s j, k1 (ix3 0 s j) = K s (hd 1 j)) (hv1 : ∀ s j, v1 (ix3 0 s j) = V s (hd 1 j))
    (hk2 : ∀ s j, k2 (ix3 0 s j) = K s (hd 2 j)) (hv2 : ∀ s j, v2 (ix3 0 s j) = V s (hd 2 j))
    (hk3 : ∀ s j, k3 (ix3 0 s j) = K s (hd 3 j)) (hv3 : ∀ s j, v3 (ix3 0 s j) = V s (hd 3 j)) (r : Fin 512) (l : Fin 1024) :
    attB q k0 v0 k1 v1 k2 v2 k3 v3 (ix2 r l)
      = attK (fun s => ∑ j, q (ix2 r (hd ⟨l.val / 256, by omega⟩ j)) * K s (hd ⟨l.val / 256, by omega⟩ j)) (fun s => V s l) := by
  pointwise [attB]
  split
  · exact one_at q k0 v0 K V 0 _ rfl _ hk0 hv0 r _ l (by dsimp only; omega)
  split
  · exact one_at q k1 v1 K V 1 _ rfl _ hk1 hv1 r _ l (by dsimp only; omega)
  split
  · exact one_at q k2 v2 K V 2 _ rfl _ hk2 hv2 r _ l (by dsimp only; omega)
  · exact one_at q k3 v3 K V 3 _ rfl _ hk3 hv3 r _ l (by dsimp only; omega)

theorem mixB_at (a b c d : Vec Ideal S1x512x128 .f32) (gw : Vec Ideal S512x512 .bf16) (gb : Vec Ideal S1x512 .f32) (ya : Vec Ideal S512x512 .bf16)
    (ag sg : Vec Ideal S1x512 .f32) (x : Vec Ideal S512x1024 .f32) (w : Vec Ideal S1024x1024 .bf16) (r : Fin 512) (l : Fin 1024) :
    mixB a b c d gw gb ya ag sg x w (ix2 r l) = mix (fun k => x (ix2 r k)) (fun k => ya (ix2 r k))
      (gate (fun k => glB a b c d (ix2 r k)) (fun k d => gw (ix2 k d)) (fun d => gb (ix2 0 d))) (fun d => ag (ix2 0 d)) (fun d => sg (ix2 0 d)) (fun k d => w (ix2 k d)) l := by
  unfold mixB mix
  rw [addB_at]
  simp only [catB_at]
  refine congrArg (_ + ·) (Finset.sum_congr rfl fun k _ => congrArg (· * _) (congrArg₂ (cat · · k) (funext fun d => ?_) (funext fun d => ?_)))
  · rw [normB_at]; rfl
  · rw [normB_at]; simp only [gateB_at]

/-- A block's row. -/
theorem blkB_at (a b c d : Vec Ideal S1x512x128 .f32) (gw : Vec Ideal S512x512 .bf16) (gb : Vec Ideal S1x512 .f32) (ya : Vec Ideal S512x512 .bf16)
    (ag sg : Vec Ideal S1x512 .f32) (x : Vec Ideal S512x1024 .f32) (w : Vec Ideal S1024x1024 .bf16) (xg : Vec Ideal S1x1024 .f32)
    (wq wo : Vec Ideal S1024x1024 .bf16) (k0 v0 k1 v1 k2 v2 k3 v3 : Vec Ideal S1x256x256 .bf16) (K V : Fin 256 → Fin 1024 → EReal)
    (hk0 : ∀ s j, k0 (ix3 0 s j) = K s (hd 0 j)) (hv0 : ∀ s j, v0 (ix3 0 s j) = V s (hd 0 j))
    (hk1 : ∀ s j, k1 (ix3 0 s j) = K s (hd 1 j)) (hv1 : ∀ s j, v1 (ix3 0 s j) = V s (hd 1 j))
    (hk2 : ∀ s j, k2 (ix3 0 s j) = K s (hd 2 j)) (hv2 : ∀ s j, v2 (ix3 0 s j) = V s (hd 2 j))
    (hk3 : ∀ s j, k3 (ix3 0 s j) = K s (hd 3 j)) (hv3 : ∀ s j, v3 (ix3 0 s j) = V s (hd 3 j)) (r : Fin 512) (l : Fin 1024) :
    blkB a b c d gw gb ya ag sg x w xg wq wo k0 v0 k1 v1 k2 v2 k3 v3 (ix2 r l)
      = outK (mix (fun k => x (ix2 r k)) (fun k => ya (ix2 r k))
          (gate (fun k => glB a b c d (ix2 r k)) (fun k d => gw (ix2 k d)) (fun d => gb (ix2 0 d))) (fun d => ag (ix2 0 d)) (fun d => sg (ix2 0 d)) (fun k d => w (ix2 k d)))
        (fun k => xg (ix2 0 k)) (fun k d => wq (ix2 k d)) (fun k d => wo (ix2 k d)) K V l := by
  unfold blkB outK
  rw [addB_at]
  simp only [attB_at _ _ _ _ _ _ _ _ _ K V hk0 hv0 hk1 hv1 hk2 hv2 hk3 hv3, qryB_at, rowB_at, mixB_at]
  rfl

end Cert.Kernel4Ideal.Mid
end
-- ==== Proof.MidStep.lean ====
module
public import proofs.«01_k».proof.Proof.Gen.Kernel4Ideal.Value
public import proofs.«01_k».proof.Proof.MidPay
public import Idealize.ShloMosaic.Lib.Pipeline.ReadBack
@[expose] public section
set_option maxRecDepth 65536
noncomputable section
namespace Cert.Kernel4Ideal.Mid
open Cert.Kernel4Ideal Cert.Kernel4Ideal.Gen Idealize.ShloMosaic Idealize.ShloMosaic.TcCoe Idealize.SL.Sem
open Cert.Mid Cert.Ffn

/-- What the scratch holds after the stores. -/
def plane (z : Vec Ideal S4x64x2048 .bf16) (i : S4x1024x128.Idx) : EReal :=
  z (ix3 (i 0) ⟨(i 1).val / 16, by have := (i 1).isLt; simp at this; omega⟩ ⟨(i 1).val % 16 * 128 + (i 2).val, by have := (i 2).isLt; simp at this; omega⟩)

theorem piece_at (z : Vec Ideal S4x64x2048 .bf16) (j r c l : ℕ) (inb inb' sp) (hc : c * 16 + r % 16 = r) (hl : r % 16 * 128 = l) (x : S1x32x128.Idx) :
    k0_pay3 (View.ld z (Rect.unit (s := S4x64x2048) ![j, c, l] S1x32x128.size inb')) x
      = plane z (({ off := ![j, r, 0], size := S1x32x128.size, stride := ![1, 16, 1], inb := inb, stride_pos := sp } : Rect S4x1024x128).emb x) := by
  have e0 : ((({ off := ![j, r, 0], size := S1x32x128.size, stride := ![1, 16, 1], inb := inb, stride_pos := sp } : Rect S4x1024x128).emb x) 0).val = j + 1 * (x 0).val := rfl
  have e1 : ((({ off := ![j, r, 0], size := S1x32x128.size, stride := ![1, 16, 1], inb := inb, stride_pos := sp } : Rect S4x1024x128).emb x) 1).val = r + 16 * (x 1).val := rfl
  have e2 : ((({ off := ![j, r, 0], size := S1x32x128.size, stride := ![1, 16, 1], inb := inb, stride_pos := sp } : Rect S4x1024x128).emb x) 2).val = 0 + 1 * (x 2).val := rfl
  have h0 : (x 0).val < 1 := (x 0).isLt
  have h2 : (x 2).val < 128 := (x 2).isLt
  generalize ({ off := ![j, r, 0], size := S1x32x128.size, stride := ![1, 16, 1], inb := inb, stride_pos := sp } : Rect S4x1024x128).emb x = y at e0 e1 e2
  idx_vars x
  pointwise [k0_pay3]
  unfold plane
  refine congrArg z (funext fun a => Fin.ext ?_)
  change (y 0).val = j + 1 * x0.val at e0
  change (y 1).val = r + 16 * x1.val at e1
  change (y 2).val = 0 + 1 * x2.val at e2
  change x2.val < 128 at h2
  fin_cases a
  all_goals simp [e0, e1, e2]
  all_goals omega

/-- One more strided store that agrees with the plane. -/
theorem piece_cons (z : Vec Ideal S4x64x2048 .bf16) (j r c l : ℕ) (inb inb' sp) (w : S1x32x128.Idx → EReal)
    (hw : w = k0_pay3 (View.ld z (Rect.unit (s := S4x64x2048) ![j, c, l] S1x32x128.size inb'))) (hc : c * 16 + r % 16 = r) (hl : r % 16 * 128 = l)
    (L : List (View.Piece (Elt Ideal) S4x1024x128 .f32)) (h : View.PiecesOf (plane z) L) :
    View.PiecesOf (plane z) (⟨({ off := ![j, r, 0], size := S1x32x128.size, stride := ![1, 16, 1], inb := inb, stride_pos := sp } : Rect S4x1024x128), w⟩ :: L) :=
  ⟨fun x => by subst hw; exact piece_at z j r c l inb inb' sp hc hl x, h⟩

/-- Whether a list of rectangles has the sixteen interleaved rows of a set of lanes from row `o` on. -/
def rowsIn (j o : ℕ) (R : List (Rect S4x1024x128)) : Bool :=
  (List.range 16).all fun t => R.any fun r => decide (∀ a : Fin 3, r.off a = (![j, o + t, 0] : Fin 3 → ℕ) a ∧ r.size a = S1x32x128.size a ∧ r.stride a = (![1, 16, 1] : Fin 3 → ℕ) a)

/-- A load of 512 rows over strided stores that agree with the plane holds the plane's rows. -/
theorem read_rows {sig : RefSig} {κ : Kind} {sp : Space} (v : View sig κ sp S4x1024x128 .f32) (z : Vec Ideal S4x64x2048 .bf16)
    (L : List (View.Piece (Elt Ideal) S4x1024x128 .f32)) (j o : ℕ) (inb) (hL : View.PiecesOf (plane z) L) (hc : rowsIn j o (L.map (·.1)) = true) :
    v.readCov L (Rect.unit (s := S4x1024x128) ![j, o, 0] S1x512x128.size inb).toLoadRect = View.ld (plane z) (Rect.unit (s := S4x1024x128) ![j, o, 0] S1x512x128.size inb) := by
  rw [View.readCov_eq_canon']
  funext x
  refine View.canon_apply_of_pieces (plane z) L hL.mem _ ?_
  have h1 : (x 1).val < 512 := (x 1).isLt
  have h2 : (x 2).val < 128 := (x 2).isLt
  have h0 : (x 0).val < 1 := (x 0).isLt
  have hr := List.all_eq_true.mp hc ((x 1).val % 16) (List.mem_range.mpr (Nat.mod_lt _ (by decide)))
  obtain ⟨r, hm, hr⟩ := List.any_eq_true.mp hr
  obtain ⟨p, hp, rfl⟩ := List.mem_map.mp hm
  refine ⟨p, hp, ?_⟩
  have hr := of_decide_eq_true hr
  rw [LoadRect.mem_set]
  intro a
  have e0 : ((Rect.unit (s := S4x1024x128) ![j, o, 0] S1x512x128.size inb).toLoadRect.idx x 0).val = j + 1 * (x 0).val := rfl
  have e1 : ((Rect.unit (s := S4x1024x128) ![j, o, 0] S1x512x128.size inb).toLoadRect.idx x 1).val = o + 1 * (x 1).val := rfl
  have e2 : ((Rect.unit (s := S4x1024x128) ![j, o, 0] S1x512x128.size inb).toLoadRect.idx x 2).val = 0 + 1 * (x 2).val := rfl
  obtain ⟨ho, hs, ht⟩ := hr a
  match a with
  | ⟨0, _⟩ => exact ⟨0, by rw [hs]; exact Nat.one_pos, by rw [ho, ht]; exact e0.trans (show j + 1 * (x 0).val = j + 1 * 0 by omega)⟩
  | ⟨1, _⟩ => exact ⟨(x 1).val / 16, by rw [hs]; exact (show (x 1).val / 16 < 32 by omega), by rw [ho, ht]; exact e1.trans (show o + 1 * (x 1).val = o + (x 1).val % 16 + 16 * ((x 1).val / 16) by omega)⟩
  | ⟨2, _⟩ => exact ⟨(x 2).val, by rw [hs]; exact h2, by rw [ho, ht]; exact e2⟩

/-- One row of a point's block, from the blocks it reads. -/
def stepRow (x : Vec Ideal S1024x1024 .f32) (y : Vec Ideal S1024x512 .bf16) (z : Vec Ideal S4x64x2048 .bf16) (gw : Vec Ideal S512x512 .bf16) (gb ag sg : Vec Ideal S1x512 .f32)
    (w : Vec Ideal S1024x1024 .bf16) (xg : Vec Ideal S1x1024 .f32) (wq wo : Vec Ideal S1024x1024 .bf16) (k v : Vec Ideal S1x256x1024 .bf16) (r d : Fin 1024) : EReal :=
  outK (mix (fun k => x (ix2 r k)) (fun k => y (ix2 r k))
      (gate (fun l => plane z (ix3 ⟨l.val / 128, by omega⟩ r ⟨l.val % 128, by omega⟩)) (fun k d => gw (ix2 k d)) (fun d => gb (ix2 0 d))) (fun d => ag (ix2 0 d)) (fun d => sg (ix2 0 d)) (fun k d => w (ix2 k d)))
    (fun k => xg (ix2 0 k)) (fun k d => wq (ix2 k d)) (fun k d => wo (ix2 k d)) (fun s l => k (ix3 0 s l)) (fun s l => v (ix3 0 s l)) d

theorem ld_x (x : Vec Ideal S1024x1024 .f32) (o : ℕ) (inb) (r : Fin 512) (k : Fin 1024) (R : Fin 1024) (h : R.val = o + r.val) :
    View.ld x (Rect.unit (s := S1024x1024) ![o, 0] S512x1024.size inb) (ix2 r k) = x (ix2 R k) := by
  refine congrArg x (funext fun a => Fin.ext ?_)
  fin_cases a
  · exact (show o + 1 * r.val = R.val by omega)
  · exact (show 0 + 1 * k.val = k.val by omega)

theorem ld_y (x : Vec Ideal S1024x512 .bf16) (o : ℕ) (inb) (r : Fin 512) (k : Fin 512) (R : Fin 1024) (h : R.val = o + r.val) :
    View.ld x (Rect.unit (s := S1024x512) ![o, 0] S512x512.size inb) (ix2 r k) = x (ix2 R k) := by
  refine congrArg x (funext fun a => Fin.ext ?_)
  fin_cases a
  · exact (show o + 1 * r.val = R.val by omega)
  · exact (show 0 + 1 * k.val = k.val by omega)

theorem ld_z (x : Vec Ideal S4x1024x128 .f32) (j : Fin 4) (n o : ℕ) (hn : n = j.val) (inb) (r : Fin 512) (l : Fin 128) (R : Fin 1024) (h : R.val = o + r.val) :
    View.ld x (Rect.unit (s := S4x1024x128) ![n, o, 0] S1x512x128.size inb) (ix3 0 r l) = x (ix3 j R l) := by
  refine congrArg x (funext fun a => Fin.ext ?_)
  fin_cases a
  · exact (show n + 1 * 0 = j.val by omega)
  · exact (show o + 1 * r.val = R.val by omega)
  · exact (show 0 + 1 * l.val = l.val by omega)

theorem ld_k (x : Vec Ideal S1x256x1024 .bf16) (h : Fin 4) (o : ℕ) (ho : o = h.val * 256) (inb) (s j : Fin 256) :
    View.ld x (Rect.unit (s := S1x256x1024) ![0, 0, o] S1x256x256.size inb) (ix3 0 s j) = x (ix3 0 s (hd h j)) := by
  refine congrArg x (funext fun a => Fin.ext ?_)
  fin_cases a
  · rfl
  · exact (show 0 + 1 * s.val = s.val by omega)
  · exact (show o + 1 * j.val = h.val * 256 + j.val by omega)

/-- Half a block's rows, from its loads. -/
theorem blk_ld (x : Vec Ideal S1024x1024 .f32) (y : Vec Ideal S1024x512 .bf16) (z : Vec Ideal S4x64x2048 .bf16) (gw : Vec Ideal S512x512 .bf16) (gb ag sg : Vec Ideal S1x512 .f32)
    (w : Vec Ideal S1024x1024 .bf16) (xg : Vec Ideal S1x1024 .f32) (wq wo : Vec Ideal S1024x1024 .bf16) (k v : Vec Ideal S1x256x1024 .bf16) (o : ℕ) (r : Fin 512) (d R : Fin 1024) (h : R.val = o + r.val)
    (i0 i1 i2 i3 ix iy) :
    blkB (View.ld (plane z : Vec Ideal S4x1024x128 .f32) (Rect.unit (s := S4x1024x128) ![0, o, 0] S1x512x128.size i0)) (View.ld (plane z : Vec Ideal S4x1024x128 .f32) (Rect.unit (s := S4x1024x128) ![1, o, 0] S1x512x128.size i1))
      (View.ld (plane z : Vec Ideal S4x1024x128 .f32) (Rect.unit (s := S4x1024x128) ![2, o, 0] S1x512x128.size i2)) (View.ld (plane z : Vec Ideal S4x1024x128 .f32) (Rect.unit (s := S4x1024x128) ![3, o, 0] S1x512x128.size i3)) gw gb
      (View.ld y (Rect.unit (s := S1024x512) ![o, 0] S512x512.size iy)) ag sg (View.ld x (Rect.unit (s := S1024x1024) ![o, 0] S512x1024.size ix)) w xg wq wo
      (View.ld k (Rect.unit (s := S1x256x1024) ![0, 0, 0] S1x256x256.size inb_S1x256x1024_S1x256x256_0_0_0)) (View.ld v (Rect.unit (s := S1x256x1024) ![0, 0, 0] S1x256x256.size inb_S1x256x1024_S1x256x256_0_0_0))
      (View.ld k (Rect.unit (s := S1x256x1024) ![0, 0, 256] S1x256x256.size inb_S1x256x1024_S1x256x256_0_0_256)) (View.ld v (Rect.unit (s := S1x256x1024) ![0, 0, 256] S1x256x256.size inb_S1x256x1024_S1x256x256_0_0_256))
      (View.ld k (Rect.unit (s := S1x256x1024) ![0, 0, 512] S1x256x256.size inb_S1x256x1024_S1x256x256_0_0_512)) (View.ld v (Rect.unit (s := S1x256x1024) ![0, 0, 512] S1x256x256.size inb_S1x256x1024_S1x256x256_0_0_512))
      (View.ld k (Rect.unit (s := S1x256x1024) ![0, 0, 768] S1x256x256.size inb_S1x256x1024_S1x256x256_0_0_768)) (View.ld v (Rect.unit (s := S1x256x1024) ![0, 0, 768] S1x256x256.size inb_S1x256x1024_S1x256x256_0_0_768)) (ix2 r d)
      = stepRow x y z gw gb ag sg w xg wq wo k v R d := by
  rw [blkB_at _ _ _ _ _ _ _ _ _ _ _ _ _ _ _ _ _ _ _ _ _ _ (fun s l => k (ix3 0 s l)) (fun s l => v (ix3 0 s l)) (ld_k k 0 0 rfl _) (ld_k v 0 0 rfl _)
    (ld_k k 1 256 rfl _) (ld_k v 1 256 rfl _) (ld_k k 2 512 rfl _) (ld_k v 2 512 rfl _) (ld_k k 3 768 rfl _) (ld_k v 3 768 rfl _) r d]
  have hz := glB_at _ _ _ _ r (fun l => plane z (ix3 ⟨l.val / 128, by omega⟩ R ⟨l.val % 128, by omega⟩))
    (fun l => (ld_z (plane z) 0 0 o rfl i0 r l R h).trans (congrArg (plane z) (by congr 1 <;> exact Fin.ext (by simp; try omega))))
    (fun l => (ld_z (plane z) 1 1 o rfl i1 r l R h).trans (congrArg (plane z) (by congr 1 <;> exact Fin.ext (by simp; try omega))))
    (fun l => (ld_z (plane z) 2 2 o rfl i2 r l R h).trans (congrArg (plane z) (by congr 1 <;> exact Fin.ext (by simp; try omega))))
    (fun l => (ld_z (plane z) 3 3 o rfl i3 r l R h).trans (congrArg (plane z) (by congr 1 <;> exact Fin.ext (by simp; try omega))))
  simp only [hz, ld_x x o _ r _ R h, ld_y y o _ r _ R h]
  rfl

variable (m : (ℓ : Loc nD τ sig) → Buf (Elt Ideal) ℓ) (c : Dev nD) (t : Fin cfg0.N)
set_option maxHeartbeats 8000000 in
/-- A point's block: the row, then lanes of zero. -/
theorem step (y : S1024x1152.Idx) (R : Fin 1024) (hR : R.val = (y 0).val) : outsAt0 m c t y = if h : (y 1).val < 1024 then
    stepRow (iblk m c 0 t) (iblk m c 1 t) (iblk m c 2 t) (iblk m c 3 t) (iblk m c 4 t) (iblk m c 5 t) (iblk m c 6 t) (iblk m c 7 t) (iblk m c 8 t) (iblk m c 9 t)
      (iblk m c 10 t) (iblk m c 11 t) (iblk m c 12 t) R ⟨(y 1).val, h⟩ else 0 := by
  unfold outsAt0
  frame_open
  simp only [View.readAt_eq_ld, Memref.IsWhole.read_unread]
  iterate 8 rw [read_rows _ (iblk m c 2 t)]
  · frame_out
    rw [lo_eq _ _ _ _ _ _ _ _ _ _ _ _ _ _ _ _ _ _ _ _ _ _ _ rfl, hi_eq _ _ _ _ _ _ _ _ _ _ _ _ _ _ _ _ _ _ _ _ _ _ _ rfl]
    canon_tiles x h using View.cover_of_tiledBy _ ![512, 128] (by sl_kernel_rfl) y
    case piece0 =>
      rw [dif_neg (by omega)]
      exact Ideal.ofBits_zero_f32
    case piece1 =>
      obtain ⟨r, l, rfl⟩ : ∃ (r : Fin 512) (l : Fin 1024), x = ix2 r l := ⟨x 0, x 1, by funext a; fin_cases a <;> rfl⟩
      rw [dif_pos (show (y 1).val < 1024 by omega), show (⟨(y 1).val, _⟩ : Fin 1024) = l from Fin.ext h1]
      exact blk_ld _ _ _ _ _ _ _ _ _ _ _ _ _ 512 r l R (hR.trans h0) _ _ _ _ _ _
    case piece2 =>
      rw [dif_neg (by omega)]
      exact Ideal.ofBits_zero_f32
    case piece3 =>
      obtain ⟨r, l, rfl⟩ : ∃ (r : Fin 512) (l : Fin 1024), x = ix2 r l := ⟨x 0, x 1, by funext a; fin_cases a <;> rfl⟩
      rw [dif_pos (show (y 1).val < 1024 by omega), show (⟨(y 1).val, _⟩ : Fin 1024) = l from Fin.ext h1]
      exact blk_ld _ _ _ _ _ _ _ _ _ _ _ _ _ 0 r l R (hR.trans (h0.trans (Nat.zero_add _).symm)) _ _ _ _ _ _
  all_goals first
    | (simp only [List.map]; decide +kernel)
    | (repeat (refine piece_cons _ _ _ _ _ _ _ _ _ (by rfl) (by rfl) (by rfl) _ ?_)
       exact trivial)
end Cert.Kernel4Ideal.Mid
end
-- ==== Proof.MidBlocks.lean ====
module

public import proofs.«01_k».proof.Proof.MidStep

@[expose] public section
set_option maxRecDepth 16384
noncomputable section
namespace Cert.Kernel4Ideal.Mid
open Cert.Kernel4Ideal Cert.Kernel4Ideal.Gen Idealize.ShloMosaic Idealize.ShloMosaic.TcCoe Idealize.SL.Sem
open Cert.Mid Cert.Ffn

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, t.val, 0] := (by decide +kernel : ∀ t : Fin grid0.N, win0_2.index t = ![0, t.val, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])
theorem idx10 : ∀ t : Fin cfg0.N, win0_10.index t = ![0, 0] := (by decide +kernel : ∀ t : Fin grid0.N, win0_10.index t = ![0, 0])
theorem idx11 : ∀ t : Fin cfg0.N, win0_11.index t = ![t.val / 2, 0, 0] := (by decide +kernel : ∀ t : Fin grid0.N, win0_11.index t = ![t.val / 2, 0, 0])
theorem idx12 : ∀ t : Fin cfg0.N, win0_12.index t = ![t.val / 2, 0, 0] := (by decide +kernel : ∀ t : Fin grid0.N, win0_12.index t = ![t.val / 2, 0, 0])
theorem idx13 : ∀ t : Fin cfg0.N, win0_13.index t = ![t.val, 0] := (by decide +kernel : ∀ t : Fin grid0.N, win0_13.index t = ![t.val, 0])

section
variable (m : (ℓ : Loc nD τ sig) → Buf (Elt Ideal) ℓ) (c : Dev nD) (t : Fin cfg0.N)

/-- The arguments as launched. -/
def a0 : FVec Ideal S8x2048x1024 .f32 := m ((c : Thread nD τ).loc main_arg0)
def a1 : FVec Ideal S8x2048x512 .f32 := m ((c : Thread nD τ).loc main_arg1)
def a2 : FVec Ideal S8x2048x512 .f32 := m ((c : Thread nD τ).loc main_arg2)
def a3 : FVec Ideal S512x512 .f32 := m ((c : Thread nD τ).loc main_arg3)
def a4 : FVec Ideal S512 .f32 := m ((c : Thread nD τ).loc main_arg4)
def a5 : FVec Ideal S512 .f32 := m ((c : Thread nD τ).loc main_arg5)
def a6 : FVec Ideal S512 .f32 := m ((c : Thread nD τ).loc main_arg6)
def a7 : FVec Ideal S1024x1024 .f32 := m ((c : Thread nD τ).loc main_arg7)
def a8 : FVec Ideal S1024 .f32 := m ((c : Thread nD τ).loc main_arg8)
def a9 : FVec Ideal S1024x1024 .f32 := m ((c : Thread nD τ).loc main_arg9)
def a10 : FVec Ideal S1024x1024 .f32 := m ((c : Thread nD τ).loc main_arg10)
def a11 : FVec Ideal S8x256x1024 .f32 := m ((c : Thread nD τ).loc main_arg11)
def a12 : FVec Ideal S8x256x1024 .f32 := m ((c : Thread nD τ).loc main_arg12)

/-- The rows before the call. -/
theorem x_at (b : Fin 8) (p : Fin 2048) (r k : Fin 1024) (h : b.val * 2048 + p.val = t.val * 1024 + r.val) : iblk m c 0 t (ix2 r k) = a0 m c (ix3 b p k) := by
  have e : V m c main_v4 = (shapeCast S16384x1024 (a0 m c) shapeCasts_S8x2048x1024_S16384x1024 : FVec Ideal S16384x1024 .f32) := by
    entry_read
    rfl
  have h' : iblk m c 0 t (ix2 r k) = V m c main_v4 (ix2 ⟨b.val * 2048 + p.val, by omega⟩ k) := by
    refine congrArg (V m c main_v4) (funext fun a => Fin.ext ?_)
    fin_cases a
    all_goals (blk_simp [idx0 t]; try omega)
    all_goals simp
    all_goals omega
  rw [h', e]
  pointwise

theorem y_at (b : Fin 8) (p : Fin 2048) (r : Fin 1024) (k : Fin 512) (h : b.val * 2048 + p.val = t.val * 1024 + r.val) : iblk m c 1 t (ix2 r k) = a1 m c (ix3 b p k) := by
  have e : V m c main_v6 = (shapeCast S16384x512 (truncf .bf16 (a1 m c) bitsLt_bf16_f32 : FVec Ideal S8x2048x512 .bf16) shapeCasts_S8x2048x512_S16384x512 : FVec Ideal S16384x512 .bf16) := by
    entry_read
    rfl
  have h' : iblk m c 1 t (ix2 r k) = V m c main_v6 (ix2 ⟨b.val * 2048 + p.val, by omega⟩ k) := by
    refine congrArg (V m c main_v6) (funext fun a => Fin.ext ?_)
    fin_cases a
    all_goals (blk_simp [idx1 t]; try omega)
    all_goals simp
    all_goals omega
  rw [h', e]
  pointwise

/-- The mixer's channels, through the transposed sets and the scratch. -/
theorem z_at (b : Fin 8) (p : Fin 2048) (r : Fin 1024) (l : Fin 512) (h : b.val * 2048 + p.val = t.val * 1024 + r.val) :
    plane (iblk m c 2 t) (ix3 ⟨l.val / 128, by omega⟩ r ⟨l.val % 128, by omega⟩) = a2 m c (ix3 b p l) := by
  have e : V m c main_v3 = (shapeCast S4x1024x2048 (transpose S4x1024x16x128 [2, 0, 1, 3] (shapeCast S1024x16x4x128 (truncf .bf16 (a2 m c) bitsLt_bf16_f32 : FVec Ideal S8x2048x512 .bf16) shapeCasts_S8x2048x512_S1024x16x4x128 : FVec Ideal S1024x16x4x128 .bf16) transposes_S1024x16x4x128_S4x1024x16x128_2_0_1_3 : FVec Ideal S4x1024x16x128 .bf16) shapeCasts_S4x1024x16x128_S4x1024x2048 : FVec Ideal S4x1024x2048 .bf16) := by
    entry_read
    rfl
  have ht : t.val < 16 := t.isLt
  have h' : plane (iblk m c 2 t) (ix3 ⟨l.val / 128, by omega⟩ r ⟨l.val % 128, by omega⟩)
      = V m c main_v3 (ix3 ⟨l.val / 128, by omega⟩ ⟨t.val * 64 + r.val / 16, by omega⟩ ⟨r.val % 16 * 128 + l.val % 128, by omega⟩) := by
    unfold plane
    refine congrArg (V m c main_v3) (funext fun a => Fin.ext ?_)
    fin_cases a
    all_goals (blk_simp [idx2 t]; try omega)
    all_goals simp
    all_goals omega
  rw [h', e]
  pointwise
  exact congrArg₂ (fun b p => a2 m c (ix3 b p l)) (Fin.ext (by dsimp only; omega)) (Fin.ext (by dsimp only; omega))

theorem gw_at (k d : Fin 512) : iblk m c 3 t (ix2 k d) = a3 m c (ix2 k d) := by
  have e : V m c main_v9 = (truncf .bf16 (a3 m c) bitsLt_bf16_f32 : FVec Ideal S512x512 .bf16) := by
    entry_read
    rfl
  refine (congrArg (V m c main_v9) (funext fun a => Fin.ext ?_)).trans (congrFun e (ix2 k d))
  fin_cases a
  all_goals (blk_simp [idx3 t]; try omega)
  all_goals simp

theorem gb_at (d : Fin 512) : iblk m c 4 t (ix2 0 d) = a4 m c (ix1 d) := by
  have e : V m c main_v10 = (broadcastInDim S1x512 ![1] bcast_S512_S1x512_1 (a4 m c) : FVec Ideal S1x512 .f32) := by
    entry_read
    rfl
  refine (congrArg (V m c main_v10) (funext fun a => Fin.ext ?_)).trans ((congrFun e (ix2 0 d)).trans (by pointwise))
  fin_cases a
  all_goals (blk_simp [idx4 t]; try omega)
  all_goals simp

theorem ag_at (d : Fin 512) : iblk m c 5 t (ix2 0 d) = a5 m c (ix1 d) := by
  have e : V m c main_v11 = (broadcastInDim S1x512 ![1] bcast_S512_S1x512_1 (a5 m c) : FVec Ideal S1x512 .f32) := by
    entry_read
    rfl
  refine (congrArg (V m c main_v11) (funext fun a => Fin.ext ?_)).trans ((congrFun e (ix2 0 d)).trans (by pointwise))
  fin_cases a
  all_goals (blk_simp [idx5 t]; try omega)
  all_goals simp

theorem sg_at (d : Fin 512) : iblk m c 6 t (ix2 0 d) = a6 m c (ix1 d) := by
  have e : V m c main_v12 = (broadcastInDim S1x512 ![1] bcast_S512_S1x512_1 (a6 m c) : FVec Ideal S1x512 .f32) := by
    entry_read
    rfl
  refine (congrArg (V m c main_v12) (funext fun a => Fin.ext ?_)).trans ((congrFun e (ix2 0 d)).trans (by pointwise))
  fin_cases a
  all_goals (blk_simp [idx6 t]; try omega)
  all_goals simp

theorem w_at (k d : Fin 1024) : iblk m c 7 t (ix2 k d) = a7 m c (ix2 k d) := by
  have e : V m c main_v13 = (truncf .bf16 (a7 m c) bitsLt_bf16_f32 : FVec Ideal S1024x1024 .bf16) := by
    entry_read
    rfl
  refine (congrArg (V m c main_v13) (funext fun a => Fin.ext ?_)).trans (congrFun e (ix2 k d))
  fin_cases a
  all_goals (blk_simp [idx7 t]; try omega)
  all_goals simp

theorem xg_at (d : Fin 1024) : iblk m c 8 t (ix2 0 d) = a8 m c (ix1 d) := by
  have e : V m c main_v14 = (broadcastInDim S1x1024 ![1] bcast_S1024_S1x1024_1 (a8 m c) : FVec Ideal S1x1024 .f32) := by
    entry_read
    rfl
  refine (congrArg (V m c main_v14) (funext fun a => Fin.ext ?_)).trans ((congrFun e (ix2 0 d)).trans (by pointwise))
  fin_cases a
  all_goals (blk_simp [idx8 t]; try omega)
  all_goals simp

theorem wq_at (k d : Fin 1024) : iblk m c 9 t (ix2 k d) = a9 m c (ix2 k d) := by
  have e : V m c main_v15 = (truncf .bf16 (a9 m c) bitsLt_bf16_f32 : FVec Ideal S1024x1024 .bf16) := by
    entry_read
    rfl
  refine (congrArg (V m c main_v15) (funext fun a => Fin.ext ?_)).trans (congrFun e (ix2 k d))
  fin_cases a
  all_goals (blk_simp [idx9 t]; try omega)
  all_goals simp

theorem wo_at (k d : Fin 1024) : iblk m c 10 t (ix2 k d) = a10 m c (ix2 k d) := by
  have e : V m c main_v16 = (truncf .bf16 (a10 m c) bitsLt_bf16_f32 : FVec Ideal S1024x1024 .bf16) := by
    entry_read
    rfl
  refine (congrArg (V m c main_v16) (funext fun a => Fin.ext ?_)).trans (congrFun e (ix2 k d))
  fin_cases a
  all_goals (blk_simp [idx10 t]; try omega)
  all_goals simp

theorem k_at (b : Fin 8) (hb : b.val = t.val / 2) (s : Fin 256) (l : Fin 1024) : iblk m c 11 t (ix3 0 s l) = a11 m c (ix3 b s l) := by
  have e : V m c main_v7 = (truncf .bf16 (a11 m c) bitsLt_bf16_f32 : FVec Ideal S8x256x1024 .bf16) := by
    entry_read
    rfl
  refine (congrArg (V m c main_v7) (funext fun a => Fin.ext ?_)).trans (congrFun e (ix3 b s l))
  fin_cases a
  all_goals (blk_simp [idx11 t]; try omega)
  all_goals simp
  all_goals omega

theorem v_at (b : Fin 8) (hb : b.val = t.val / 2) (s : Fin 256) (l : Fin 1024) : iblk m c 12 t (ix3 0 s l) = a12 m c (ix3 b s l) := by
  have e : V m c main_v8 = (truncf .bf16 (a12 m c) bitsLt_bf16_f32 : FVec Ideal S8x256x1024 .bf16) := by
    entry_read
    rfl
  refine (congrArg (V m c main_v8) (funext fun a => Fin.ext ?_)).trans (congrFun e (ix3 b s l))
  fin_cases a
  all_goals (blk_simp [idx12 t]; try omega)
  all_goals simp
  all_goals omega

end

/-- The call's result, row by row. -/
def kOut (x : FVec Ideal S8x2048x1024 .f32) (y z : FVec Ideal S8x2048x512 .f32) (gw : FVec Ideal S512x512 .f32) (gb ag sg : FVec Ideal S512 .f32) (w : FVec Ideal S1024x1024 .f32)
    (xg : FVec Ideal S1024 .f32) (wq wo : FVec Ideal S1024x1024 .f32) (k v : FVec Ideal S8x256x1024 .f32) (i : S16384x1152.Idx) : EReal :=
  if h : (i 1).val < 1024 then
    outK (mix (fun l => x (ix3 ⟨(i 0).val / 2048, by have := (i 0).isLt; simp at this; omega⟩ ⟨(i 0).val % 2048, by omega⟩ l))
        (fun l => y (ix3 ⟨(i 0).val / 2048, by have := (i 0).isLt; simp at this; omega⟩ ⟨(i 0).val % 2048, by omega⟩ l))
        (gate (fun l => z (ix3 ⟨(i 0).val / 2048, by have := (i 0).isLt; simp at this; omega⟩ ⟨(i 0).val % 2048, by omega⟩ l)) (fun l d => gw (ix2 l d)) (fun d => gb (ix1 d)))
        (fun d => ag (ix1 d)) (fun d => sg (ix1 d)) (fun l d => w (ix2 l d)))
      (fun d => xg (ix1 d)) (fun l d => wq (ix2 l d)) (fun l d => wo (ix2 l d))
      (fun s l => k (ix3 ⟨(i 0).val / 2048, by have := (i 0).isLt; simp at this; omega⟩ s l)) (fun s l => v (ix3 ⟨(i 0).val / 2048, by have := (i 0).isLt; simp at this; omega⟩ s l)) ⟨(i 1).val, h⟩
  else 0

/-- The result after the run. -/
theorem final (m : (ℓ : Loc nD τ sig) → Buf (Elt Ideal) ℓ) (c : Dev nD) : (dats m 0 c).arrAt 13 cfg0.N
    = kOut (a0 m c) (a1 m c) (a2 m c) (a3 m c) (a4 m c) (a5 m c) (a6 m c) (a7 m c) (a8 m c) (a9 m c) (a10 m c) (a11 m c) (a12 m c) := by
  refine (dats m 0 c).arrAt_eq_of_covers 13 _ (by decide +kernel) fun t hf y => ?_
  blk_simp
  rw [after0_13]
  obtain ⟨r, d, rfl⟩ : ∃ (r : Fin 1024) (d : Fin 1152), y = ix2 r d := ⟨y 0, y 1, by funext a; fin_cases a <;> rfl⟩
  have e0 : (((win0_13.blk t).view.emb (ix2 r d)) 0).val = t.val * 1024 + r.val := by blk_simp [idx13 t]
  have e1 : (((win0_13.blk t).view.emb (ix2 r d)) 1).val = d.val := by blk_simp [idx13 t]
  generalize (win0_13.blk t).view.emb (ix2 r d) = i at e0 e1
  have hi : (i 0).val < 16384 := (i 0).isLt
  rw [step m c t (ix2 r d) r rfl]
  unfold kOut stepRow
  have hp : ((⟨(i 0).val / 2048, by omega⟩ : Fin 8)).val * 2048 + ((⟨(i 0).val % 2048, by omega⟩ : Fin 2048)).val = t.val * 1024 + r.val := by dsimp only; omega
  have hb : ((⟨(i 0).val / 2048, by omega⟩ : Fin 8)).val = t.val / 2 := by dsimp only; omega
  simp only [x_at m c t _ _ r _ hp, y_at m c t _ _ r _ hp, z_at m c t _ _ r _ hp, gw_at, gb_at, ag_at, sg_at, w_at, xg_at, wq_at, wo_at, k_at m c t _ hb, v_at m c t _ hb]
  have ed : (ix2 r d 1 : Fin 1152).val = (i 1).val := e1.symm
  by_cases hd : (i 1).val < 1024
  · rw [dif_pos hd, dif_pos (ed ▸ hd)]
    congr 1
    exact Fin.ext ed
  · rw [dif_neg hd, dif_neg (ed ▸ hd)]

end Cert.Kernel4Ideal.Mid
end
-- ==== Proof.MidRef.lean ====
module

public import proofs.«01_k».proof.Proof.Gen.Reference4Ideal.Run
public import Idealize.ShloMosaic.Lib.Pipeline.ValueKit
public import Idealize.ShloMosaic.Lib.Pointwise
public import proofs.«01_k».proof.Proof.MidMath

@[expose] public section
set_option maxRecDepth 16384
noncomputable section
namespace Cert.Reference4Ideal.Mid
open Cert.Reference4Ideal Cert.Reference4Ideal.Gen Idealize.ShloMosaic Idealize.ShloMosaic.TcCoe Idealize.SL.Sem
open Cert.Mid Cert.Ffn

/-- A half normalised and scaled. -/
def normR (x : FVec Ideal S8x2048x512 .f32) (g : FVec Ideal S512 .f32) : FVec Ideal S8x2048x512 .f32 :=
  mulf (mulf x (broadcastInDim S8x2048x512 ![0, 1, 2] bcast_S8x2048x1_S8x2048x512_0_1_2 (Host.rsqrt (addf (Host.divf (broadcastInDim S8x2048x1 ![0, 1] bcast_S8x2048_S8x2048x1_0_1 (Host.reduceAdd (mulf x x) (constant S_ .f32 0x00000000#32) reducesTo_S8x2048x512_S8x2048_d2 h_S_)) (broadcastInDim S8x2048x1 ![] bcast_S_S8x2048x1 (constant S_ .f32 0x44000000#32))) (broadcastInDim S8x2048x1 ![] bcast_S_S8x2048x1 (constant S_ .f32 0x358637BD#32)))))) (broadcastInDim S8x2048x512 ![0, 1, 2] bcast_S1x1x512_S8x2048x512_0_1_2 (broadcastInDim S1x1x512 ![2] bcast_S512_S1x1x512_2 g))

/-- The gated channels. -/
def gateR (z : FVec Ideal S8x2048x512 .f32) (w : FVec Ideal S512x512 .f32) (b : FVec Ideal S512 .f32) : FVec Ideal S8x2048x512 .f32 :=
  mulf z (Host.divf (broadcastInDim S8x2048x512 ![] bcast_S_S8x2048x512 (constant S_ .f32 0x3F800000#32)) (addf (broadcastInDim S8x2048x512 ![] bcast_S_S8x2048x512 (constant S_ .f32 0x3F800000#32)) (Host.exp (Host.negf (addf (Host.dotGeneral dot_S8x2048x512_S512x512_S8x2048x512_2_0_01_1_n_n none z w) (broadcastInDim S8x2048x512 ![0, 1, 2] bcast_S1x1x512_S8x2048x512_0_1_2 (broadcastInDim S1x1x512 ![2] bcast_S512_S1x1x512_2 b)))))))

/-- The two halves side by side. -/
def catR (a s : FVec Ideal S8x2048x512 .f32) : FVec Ideal S8x2048x1024 .f32 :=
  concatenate S8x2048x1024 2 [⟨S8x2048x512, a⟩, ⟨S8x2048x512, s⟩] concatenates_S8x2048x512_S8x2048x512_S8x2048x1024_d2

/-- A product with a square weight. -/
def dotR (a : FVec Ideal S8x2048x1024 .f32) (w : FVec Ideal S1024x1024 .f32) : FVec Ideal S8x2048x1024 .f32 :=
  Host.dotGeneral dot_S8x2048x1024_S1024x1024_S8x2048x1024_2_0_01_1_n_n none a w

/-- The rows after the output projection. -/
def mixR (x : FVec Ideal S8x2048x1024 .f32) (y z : FVec Ideal S8x2048x512 .f32) (gw : FVec Ideal S512x512 .f32) (gb ag sg : FVec Ideal S512 .f32) (w : FVec Ideal S1024x1024 .f32) : FVec Ideal S8x2048x1024 .f32 :=
  addf x (dotR (catR (normR y ag) (normR (gateR z gw gb) sg)) w)

/-- Whole rows, normalised and scaled. -/
def rowR (x : FVec Ideal S8x2048x1024 .f32) (g : FVec Ideal S1024 .f32) : FVec Ideal S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))

/-- The scores. -/
def scoR (q : FVec Ideal S8x2048x1024 .f32) (k : FVec Ideal S8x256x1024 .f32) : FVec Ideal S8x4x2048x256 .f32 :=
  mulf (Host.dotGeneral dot_S8x2048x4x256_S8x256x4x256_S8x4x2048x256_3_3_1_1_02_02 none (shapeCast _ q shapeCasts_S8x2048x1024_S8x2048x4x256 : FVec Ideal S8x2048x4x256 .f32) (shapeCast _ k shapeCasts_S8x256x1024_S8x256x4x256 : FVec Ideal S8x256x4x256 .f32)) (broadcastInDim S8x4x2048x256 ![] bcast_S_S8x4x2048x256 (constant S_ .f32 0x3D800000#32))

/-- The row maxima, before the lower bound. -/
def topR (s : FVec Ideal S8x4x2048x256 .f32) : FVec Ideal S8x4x2048 .f32 :=
  Host.reduce FloatOps.maximumf s (constant S_ .f32 0xFF800000#32) reducesTo_S8x4x2048x256_S8x4x2048_d3 h_S_

/-- The lower bound −∞. -/
def lowR (x : FVec Ideal S8x4x2048 .f32) : FVec Ideal S8x4x2048 .f32 :=
  maximumf (broadcastInDim S8x4x2048 ![] bcast_S_S8x4x2048 (constant S_ .f32 0xFF800000#32)) x

/-- A row statistic against every key. -/
def allR (x : FVec Ideal S8x4x2048 .f32) : FVec Ideal S8x4x2048x256 .f32 :=
  broadcastInDim S8x4x2048x256 ![0, 1, 2, 3] bcast_S8x4x2048x1_S8x4x2048x256_0_1_2_3 (broadcastInDim S8x4x2048x1 ![0, 1, 2] bcast_S8x4x2048_S8x4x2048x1_0_1_2 x)

/-- The exponentials. -/
def expR (s : FVec Ideal S8x4x2048x256 .f32) : FVec Ideal S8x4x2048x256 .f32 := Host.exp (subf s (allR (lowR (topR s))))

/-- The softmax. -/
def softR (e : FVec Ideal S8x4x2048x256 .f32) : FVec Ideal S8x4x2048x256 .f32 :=
  Host.divf e (allR (Host.reduceAdd e (constant S_ .f32 0x00000000#32) reducesTo_S8x4x2048x256_S8x4x2048_d3 h_S_))

/-- The weighted values, heads side by side. -/
def valR (p : FVec Ideal S8x4x2048x256 .f32) (v : FVec Ideal S8x256x1024 .f32) : FVec Ideal S8x2048x1024 .f32 :=
  shapeCast _ (transpose S8x2048x4x256 [0, 3, 1, 2] (Host.dotGeneral dot_S8x256x4x256_S8x4x2048x256_S8x4x256x2048_1_3_3_2_02_01 none (shapeCast _ v shapeCasts_S8x256x1024_S8x256x4x256 : FVec Ideal S8x256x4x256 .f32) p) transposes_S8x4x256x2048_S8x2048x4x256_0_3_1_2) shapeCasts_S8x2048x4x256_S8x2048x1024

/-- The rows after the attention over the memory. -/
def crossR (x : FVec Ideal S8x2048x1024 .f32) (g : FVec Ideal S1024 .f32) (wq wo : FVec Ideal S1024x1024 .f32) (k v : FVec Ideal S8x256x1024 .f32) : FVec Ideal S8x2048x1024 .f32 :=
  addf x (dotR (valR (softR (expR (scoR (dotR (rowR x g) wq) k))) v) wo)

/-- The rows with their lanes of zero. -/
def padR (x : FVec Ideal S8x2048x1024 .f32) : FVec Ideal S16384x1152 .f32 :=
  shapeCast _ (concatenate S8x2048x1152 2 [⟨S8x2048x1024, x⟩, ⟨S8x2048x128, (broadcastInDim S8x2048x128 ![] bcast_S_S8x2048x128 (constant S_ .f32 0x00000000#32) : FVec Ideal S8x2048x128 .f32)⟩] concatenates_S8x2048x1024_S8x2048x128_S8x2048x1152_d2) shapeCasts_S8x2048x1152_S16384x1152

theorem normR_at (x g) (b : Fin 8) (r : Fin 2048) (d : Fin 512) : normR x g (ix3 b r d) = nrm5 (fun k => x (ix3 b r k)) (fun k => g (ix1 k)) d := by
  pointwise [normR]
  rfl

theorem one : Ideal.ofBits FTy.f32 0x3F800000#32 = 1 := by
  simp [Ideal.ofBits, Ideal.ieee]
  rw [← EReal.coe_mul]
  norm_num

theorem gateR_at (z w b) (i : Fin 8) (r : Fin 2048) (d : Fin 512) : gateR z w b (ix3 i r d) = gate (fun k => z (ix3 i r k)) (fun k d => w (ix2 k d)) (fun d => b (ix1 d)) d := by
  pointwise [gateR]
  unfold gate Ideal.logistic
  simp only [one]

theorem catR_at (a s) (b : Fin 8) (r : Fin 2048) (d : Fin 1024) : catR a s (ix3 b r d) = cat (fun k => a (ix3 b r k)) (fun k => s (ix3 b r k)) d := by
  pointwise [catR]
  rfl

theorem dotR_at (a w) (b : Fin 8) (r : Fin 2048) (d : Fin 1024) : dotR a w (ix3 b r d) = ∑ k : Fin 1024, a (ix3 b r k) * w (ix2 k d) := by
  pointwise [dotR]

theorem mixR_at (x y z gw gb ag sg w) (b : Fin 8) (r : Fin 2048) (d : Fin 1024) :
    mixR x y z gw gb ag sg w (ix3 b r d) = mix (fun k => x (ix3 b r k)) (fun k => y (ix3 b r k)) (gate (fun k => z (ix3 b r k)) (fun k d => gw (ix2 k d)) (fun d => gb (ix1 d)))
      (fun k => ag (ix1 k)) (fun k => sg (ix1 k)) (fun k d => w (ix2 k d)) d := by
  pointwise [mixR]
  unfold mix
  simp only [dotR_at, catR_at, normR_at, gateR_at]

theorem rowR_at (x g) (b : Fin 8) (r : Fin 2048) (d : Fin 1024) : rowR x g (ix3 b r d) = nrm (fun k => x (ix3 b r k)) (fun k => g (ix1 k)) d := by
  pointwise [rowR]
  rfl

theorem scoR_at (q k) (b : Fin 8) (h : Fin 4) (r : Fin 2048) (s : Fin 256) : scoR q k (ix4 b h r s) = scoreR (fun l => q (ix3 b r l)) (fun s l => k (ix3 b s l)) h s := by
  pointwise [scoR]
  rfl

/-- A maximum over the last axis, at any extents. -/
theorem redMax {n0 n1 n2 n3 : ℕ} (x : FVec Ideal ⟨4, ![n0, n1, n2, n3]⟩ .f32) (h : (⟨4, ![n0, n1, n2, n3]⟩ : Shape).ReducesTo [3] ⟨3, ![n0, n1, n2]⟩)
    (i0 : Fin n0) (i1 : Fin n1) (i2 : Fin n2) :
    Host.reduce FloatOps.maximumf x (constant S_ .f32 0xFF800000#32) h h_S_ (ix3 i0 i1 i2) =
      Finset.univ.fold max (Ideal.ofBits FTy.f32 4286578688#32) (fun s : Fin n3 => x (ix4 i0 i1 i2 s)) := by
  pointwise

theorem negInf : Ideal.ofBits FTy.f32 4286578688#32 = ⊥ := by
  simp [Ideal.ofBits, Ideal.ieee]

theorem lowR_at (x) (i : S8x4x2048.Idx) : lowR x i = x i := by
  have h : lowR x i = max (Ideal.ofBits FTy.f32 4286578688#32) (x i) := rfl
  rw [h, negInf, max_eq_right bot_le]

theorem topR_at (s) (b : Fin 8) (h : Fin 4) (r : Fin 2048) : topR s (ix3 b h r) = Finset.univ.fold max ⊥ (fun x : Fin 256 => s (ix4 b h r x)) := by
  rw [topR, redMax s reducesTo_S8x4x2048x256_S8x4x2048_d3 b h r, negInf]

theorem expR_at (x) (b : Fin 8) (h : Fin 4) (r : Fin 2048) (s : Fin 256) : expR x (ix4 b h r s) = Ideal.exp (x (ix4 b h r s) - Finset.univ.fold max ⊥ (fun s : Fin 256 => x (ix4 b h r s))) := by
  rw [← topR_at, ← lowR_at (topR x)]
  pointwise [expR, allR]

theorem softR_at (x) (b : Fin 8) (h : Fin 4) (r : Fin 2048) (s : Fin 256) : softR x (ix4 b h r s) = Ideal.div (x (ix4 b h r s)) (∑ s', x (ix4 b h r s')) := by
  pointwise [softR, allR]

theorem valR_at (p v) (b : Fin 8) (r : Fin 2048) (l : Fin 1024) : valR p v (ix3 b r l) = ∑ s : Fin 256, v (ix3 b s l) * p (ix4 b ⟨l.val / 256, by omega⟩ r s) := by
  pointwise [valR]

theorem crossR_at (x g wq wo k v) (b : Fin 8) (r : Fin 2048) (d : Fin 1024) :
    crossR x g wq wo k v (ix3 b r d) = outR (fun k => x (ix3 b r k)) (fun k => g (ix1 k)) (fun k d => wq (ix2 k d)) (fun k d => wo (ix2 k d))
      (fun s l => k (ix3 b s l)) (fun s l => v (ix3 b s l)) d := by
  pointwise [crossR]
  unfold outR attR qry
  simp only [dotR_at, valR_at, softR_at, expR_at, scoR_at, rowR_at]

theorem padR_at (x) (R : Fin 16384) (d : Fin 1152) : padR x (ix2 R d) = if h : d.val < 1024 then x (ix3 ⟨R.val / 2048, by omega⟩ ⟨R.val % 2048, by omega⟩ ⟨d.val, h⟩) else 0 := by
  pointwise [padR]

/-- The reference's result. -/
def refOut (x : FVec Ideal S8x2048x1024 .f32) (y z : FVec Ideal S8x2048x512 .f32) (gw : FVec Ideal S512x512 .f32) (gb ag sg : FVec Ideal S512 .f32) (w : FVec Ideal S1024x1024 .f32)
    (xg : FVec Ideal S1024 .f32) (wq wo : FVec Ideal S1024x1024 .f32) (k v : FVec Ideal S8x256x1024 .f32) : FVec Ideal S16384x1152 .f32 :=
  padR (crossR (mixR x y z gw gb ag sg w) xg wq wo k v)

/-- The reference's result at a row and a lane. -/
theorem refOut_at (x y z gw gb ag sg w xg wq wo k v) (R : Fin 16384) (b : Fin 8) (r : Fin 2048) (h : R.val = b.val * 2048 + r.val) (d : Fin 1152) :
    refOut x y z gw gb ag sg w xg wq wo k v (ix2 R d) = if h : d.val < 1024 then
      outR (mix (fun k => x (ix3 b r k)) (fun k => y (ix3 b r k)) (gate (fun k => z (ix3 b r k)) (fun k d => gw (ix2 k d)) (fun d => gb (ix1 d)))
          (fun k => ag (ix1 k)) (fun k => sg (ix1 k)) (fun k d => w (ix2 k d)))
        (fun k => xg (ix1 k)) (fun k d => wq (ix2 k d)) (fun k d => wo (ix2 k d)) (fun s l => k (ix3 b s l)) (fun s l => v (ix3 b s l)) ⟨d.val, h⟩ else 0 := by
  have eb : (⟨R.val / 2048, by omega⟩ : Fin 8) = b := Fin.ext (by dsimp only; omega)
  have er : (⟨R.val % 2048, by omega⟩ : Fin 2048) = r := Fin.ext (by dsimp only; omega)
  unfold refOut
  rw [padR_at, eb, er]
  simp only [crossR_at, mixR_at]

/-- The reference's run. -/
theorem res_eq (m : (ℓ : Loc nD τ sig) → Buf (Elt Ideal) ℓ) (c : Dev nD) :
    Value.res_main_v78 m c = refOut (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11)) (m ((c.tc : Thread nD τ).loc main_arg12)) := rfl

end Cert.Reference4Ideal.Mid
end
-- ==== Proof.MidEq.lean ====
module

public import proofs.«01_k».proof.Defs
public import proofs.«01_k».proof.Proof.MidBlocks
public import proofs.«01_k».proof.Proof.MidRef
public import proofs.«01_k».proof.Proof.AttnEq

@[expose] public section
set_option maxRecDepth 16384
noncomputable section

namespace Cert.Reference4Ideal.Mid
open Cert.Reference4Ideal Cert.Reference4Ideal.Gen Idealize.ShloMosaic Idealize.ShloMosaic.TcCoe Idealize.SL.Sem

/-- The reference runs, keeps its arguments and ends quiescent. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run _ _ _).mono (fun r h => ⟨fun c => (h c).2, Idealize.ShloMosaic.sem_eq_zero_of_no_sems (by decide) r.2⟩) (Value.run (F := Ideal) m g)

end Cert.Reference4Ideal.Mid

namespace Cert.MidEq
open Cert.Kernel4Ideal Idealize.ShloMosaic Idealize.ShloMosaic.TcCoe Idealize.SL.Sem

/-- The predicate's side conditions. -/
theorem preFacts : Cert.Pre_query_finite.Facts where
  bcast_S_S1024 := by decide
  reducesTo_S1024_S_d0 := by decide
  h_S_ := by decide
  bcast_S_S1024x1024 := by decide
  reducesTo_S1024x1024_S_d0_1 := by decide
  bcast_S_S8x256x1024 := by decide
  reducesTo_S8x256x1024_S_d0_1_2 := by decide

section
variable (x : FVec Ideal S8x2048x1024 .f32) (y z : FVec Ideal S8x2048x512 .f32) (gw : FVec Ideal S512x512 .f32) (gb ag sg : FVec Ideal S512 .f32) (w : FVec Ideal S1024x1024 .f32)
    (xg : FVec Ideal S1024 .f32) (wq wo : FVec Ideal S1024x1024 .f32) (k v : FVec Ideal S8x256x1024 .f32)

/-- The precondition makes the gains, the query's weight and the keys real numbers. -/
theorem finite_real [Cert.Pre_query_finite.Facts] (h : ∀ i, Cert.Pre_query_finite.fn (F := Ideal) x y z gw gb ag sg w xg wq wo k v i = 1#1) :
    (∀ i, ∃ r : ℝ, xg i = (r : EReal)) ∧ (∀ i, ∃ r : ℝ, wq i = (r : EReal)) ∧ ∀ i, ∃ r : ℝ, k i = (r : EReal) := by
  have h' := h (fun a => a.elim0)
  dsimp only [Cert.Pre_query_finite.fn] at h'
  obtain ⟨h12, h3⟩ := IntOp.andi_eq_one.1 h'
  obtain ⟨h1, h2⟩ := IntOp.andi_eq_one.1 h12
  exact ⟨fun i => Cert.AttnEq.lt_real _ (Host.reduce_andi_all _ _ _ _ _ h1 i), fun i => Cert.AttnEq.lt_real _ (Host.reduce_andi_all _ _ _ _ _ h2 i),
    fun i => Cert.AttnEq.lt_real _ (Host.reduce_andi_all _ _ _ _ _ h3 i)⟩

/-- The call and the reference are one function. -/
theorem value_eq (hg : ∀ i, ∃ r : ℝ, xg i = (r : EReal)) (hw : ∀ i, ∃ r : ℝ, wq i = (r : EReal)) (hk : ∀ i, ∃ r : ℝ, k i = (r : EReal)) :
    Cert.Kernel4Ideal.Mid.kOut x y z gw gb ag sg w xg wq wo k v = Cert.Reference4Ideal.Mid.refOut x y z gw gb ag sg w xg wq wo k v := by
  funext i
  obtain ⟨R, d, rfl⟩ : ∃ (R : Fin 16384) (d : Fin 1152), i = ix2 R d := ⟨i 0, i 1, by funext a; fin_cases a <;> rfl⟩
  rw [Cert.Reference4Ideal.Mid.refOut_at x y z gw gb ag sg w xg wq wo k v R ⟨R.val / 2048, by omega⟩ ⟨R.val % 2048, by omega⟩ (by dsimp only; omega) d]
  simp only [← Cert.Mid.out_eq _ _ _ _ _ _ (fun _ => hg _) (fun _ _ => hw _) (fun _ _ => hk _)]
  rfl

end

/-- The middle call computes the reference. -/
theorem middle : @Cert.algebraic_Kernel4Ideal_Reference4Ideal_pre_query_finite Cert.Kernel4Ideal.Gen.facts Cert.Reference4Ideal.Gen.facts preFacts := by
  intro m g m' g' hpre hagree
  refine ⟨fun c => Cert.Kernel4Ideal.Mid.kOut (Cert.Kernel4Ideal.Mid.a0 m c) (Cert.Kernel4Ideal.Mid.a1 m c) (Cert.Kernel4Ideal.Mid.a2 m c) (Cert.Kernel4Ideal.Mid.a3 m c) (Cert.Kernel4Ideal.Mid.a4 m c) (Cert.Kernel4Ideal.Mid.a5 m c) (Cert.Kernel4Ideal.Mid.a6 m c) (Cert.Kernel4Ideal.Mid.a7 m c) (Cert.Kernel4Ideal.Mid.a8 m c) (Cert.Kernel4Ideal.Mid.a9 m c) (Cert.Kernel4Ideal.Mid.a10 m c) (Cert.Kernel4Ideal.Mid.a11 m c) (Cert.Kernel4Ideal.Mid.a12 m c), ?_, ?_⟩
  · exact (θ_run _ _ _).mono (fun r h c => ⟨(h c).1.trans (Cert.Kernel4Ideal.Mid.final m c), (h c).2⟩) (Cert.Kernel4Ideal.Value.run_blocks m g)
  · refine (θ_run _ _ _).mono (fun r h c => ⟨(h c).1.trans ?_, (h c).2⟩) (Cert.Reference4Ideal.Value.run (F := Ideal) m' g')
    rw [Cert.Reference4Ideal.Mid.res_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    obtain ⟨hg, hw, hk⟩ := @finite_real _ _ _ _ _ _ _ _ _ _ _ _ _ preFacts (fun i => congrFun (hpre c) i)
    exact (value_eq _ _ _ _ _ _ _ _ _ _ _ _ _ hg hw hk).symm

end Cert.MidEq
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.AttnEq
public import proofs.«01_k».proof.Proof.FfnEq
public import proofs.«01_k».proof.Proof.FfnBits
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.MemVal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.MidEq
public import Idealize.ShloMosaic.Adequacy
public import Idealize.ShloMosaic.Init

@[expose] public section

noncomputable section

namespace Cert.Proof

open Idealize.ShloMosaic Idealize.SL.Sem Cert.Kernel

/-- The reference runs, keeps its arguments and ends quiescent. -/
theorem frameR (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, Idealize.ShloMosaic.sem_eq_zero_of_no_sems (by decide) r.2⟩)
    (Cert.ReferenceIdeal.Value.run (F := Ideal) m g)

/-- The attention call computes the reference's attention. -/
theorem attention : @Cert.algebraic_KernelIdeal_ReferenceIdeal_pre_finite Cert.KernelIdeal.Gen.facts Cert.ReferenceIdeal.Gen.facts Cert.AttnEq.preFacts := by
  intro m g m' g' hpre hagree
  refine ⟨fun c => Cert.KernelIdeal.Attn.kOut (Cert.KernelIdeal.Attn.argQ m c) (Cert.KernelIdeal.Attn.argK m c) (Cert.KernelIdeal.Attn.argV m c), ?_, ?_⟩
  · refine (θ_run _ _ _).mono (fun r h c => ⟨(h c).1.trans (Cert.KernelIdeal.Attn.final m c), (h c).2⟩) (Cert.KernelIdeal.Value.run_blocks m g)
  · refine (θ_run _ _ _).mono (fun r h c => ⟨(h c).1.trans ?_, (h c).2⟩) (Cert.ReferenceIdeal.Attn.run' m' g')
    rw [(hagree c).1, (hagree c).2.1, (hagree c).2.2]
    obtain ⟨hq, hk⟩ := @Cert.AttnEq.finite_real Cert.AttnEq.preFacts _ _ _ (fun i => congrFun (hpre c) i)
    exact (Cert.AttnEq.value_eq _ _ _ hq hk).symm

/-- The experts' call runs, keeps its arguments and ends quiescent, over the extended reals. -/
theorem frameK2I : @Cert.quiescent_Kernel2Ideal Cert.Kernel2Ideal.Gen.facts Cert.FfnPre.preFacts := fun m ρ h =>
  Cert.Kernel2Ideal.Hand.frame m ρ (Cert.Kernel2Ideal.Hand.ok_args m (Cert.FfnPre.decoded _ _ _ _ _ _ _ _ _ _ _ (fun i => congrFun (h 0) i)))

/-- The same where each tile's experts differ. -/
theorem frameK2I_differ : @Cert.quiescent_Kernel2Ideal_pre_experts_differ Cert.Kernel2Ideal.Gen.facts Cert.FfnPre.differFacts := fun m ρ h =>
  Cert.Kernel2Ideal.Hand.frame m ρ (Cert.Kernel2Ideal.Hand.ok_args m (Cert.FfnPre.decodedDiffer _ _ _ _ _ _ _ _ _ _ _ (fun i => congrFun (h 0) i)).1)

/-- The experts' reference runs, keeps its arguments and ends quiescent. -/
theorem frameR2 (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0) :=
  (θ_run _ _ _).mono (fun r h => ⟨fun c => (h c).2, Idealize.ShloMosaic.sem_eq_zero_of_no_sems (by decide) r.2⟩)
    (Cert.Reference2Ideal.Value.run (F := Ideal) m g)

/-- The memory's reference runs, keeps its arguments and ends quiescent. -/
theorem frameR3 (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0) :=
  (θ_run _ _ _).mono (fun r h => ⟨fun c => (h c).2.2, Idealize.ShloMosaic.sem_eq_zero_of_no_sems (by decide) r.2⟩)
    (Cert.Reference3Ideal.Value.run (F := Ideal) m g)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.AttnEq.preFacts, Cert.FfnPre.preFacts, Cert.FfnPre.differFacts, Cert.MidEq.preFacts,
  fun m ρ _ => Cert.Kernel.Gen.frame m ρ, fun m ρ _ => Cert.KernelIdeal.Gen.frame m ρ, fun m ρ _ => Cert.KernelIdeal.Gen.frame m ρ,
  fun m ρ _ => frameR m ρ, fun m ρ _ => frameR m ρ,
  Cert.FfnBits.frame, frameK2I, frameK2I_differ, fun m ρ _ => frameR2 m ρ, fun m ρ _ => frameR2 m ρ,
  fun m ρ _ => Cert.Kernel3.Gen.frame m ρ, fun m ρ _ => Cert.Kernel3Ideal.Gen.frame m ρ, fun m ρ _ => frameR3 m ρ,
  fun m ρ _ => Cert.Kernel4.Gen.frame m ρ, fun m ρ _ => Cert.Kernel4Ideal.Gen.frame m ρ, fun m ρ _ => Cert.Kernel4Ideal.Gen.frame m ρ,
  fun m ρ _ => Cert.Reference4Ideal.Mid.frame m ρ, fun m ρ _ => Cert.Reference4Ideal.Mid.frame m ρ,
  trivial, attention, trivial, Cert.FfnEq.experts,
  trivial, Cert.MemVal.memory, trivial, Cert.MidEq.middle⟩

end Cert.Proof

end
